-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_bf16_range [hPre_in_bf16_range : Cert.Pre_in_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_bf16_range [hPre_in_bf16_range : Cert.Pre_in_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_bf16_range [hKernelIdeal : Cert.KernelIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_bf16_range [hReferenceIdeal : Cert.ReferenceIdeal.Facts] [hPre_in_bf16_range : Cert.Pre_in_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.PackStatement Cert.KernelIdeal.S4x8x512
  ∧ IdealRules.bf16_pair.Statement Cert.KernelIdeal.S16x512 Cert.KernelIdeal.S8x512

def algebraic_KernelIdeal_ReferenceIdeal_pre_in_bf16_range [hKernelIdeal : Cert.KernelIdeal.Facts] [hReferenceIdeal : Cert.ReferenceIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_bf16_range : Cert.Pre_in_bf16_range.Facts),
    quiescent_Kernel (hKernel := hKernel)
    ∧ quiescent_KernelIdeal (hKernelIdeal := hKernelIdeal)
    ∧ quiescent_KernelIdeal_pre_in_bf16_range (hKernelIdeal := hKernelIdeal) (hPre_in_bf16_range := hPre_in_bf16_range)
    ∧ quiescent_ReferenceIdeal (hReferenceIdeal := hReferenceIdeal)
    ∧ quiescent_ReferenceIdeal_pre_in_bf16_range (hReferenceIdeal := hReferenceIdeal) (hPre_in_bf16_range := hPre_in_bf16_range)
    ∧ preserves_Kernel_KernelIdeal
    ∧ algebraic_KernelIdeal_ReferenceIdeal_pre_in_bf16_range (hKernelIdeal := hKernelIdeal) (hReferenceIdeal := hReferenceIdeal) (hPre_in_bf16_range := hPre_in_bf16_range)
-- ==== Pre_in_bf16_range.lean ====
abbrev S2x4x8x1280 : Shape := ⟨4, ![2, 4, 8, 1280]⟩
abbrev S1280x2560x3x3 : Shape := ⟨4, ![1280, 2560, 3, 3]⟩
abbrev S1280 : Shape := ⟨1, ![1280]⟩
abbrev S_ : Shape := ⟨0, ![]⟩

class Facts : Prop where
  bcast_S_S2x4x8x1280 : S_.BroadcastsInDim S2x4x8x1280 (![] : Fin 0 → Fin S2x4x8x1280.rank)
  reducesTo_S2x4x8x1280_S_d0_1_2_3 : S2x4x8x1280.ReducesTo [0, 1, 2, 3] S_
  h_S_ : 0 < S_.numel

variable [Facts]

def fn {F : FTy → Type} [FloatOps F] (main_arg0 : FVec F S2x4x8x1280 .bf16) (main_arg1 : FVec F S1280x2560x3x3 .fp8e4m3) (main_arg2 : FVec F S1280 .f32) : IVec S_ 1 :=
  let main_v0 : FVec F S2x4x8x1280 .bf16 := Host.absf main_arg0
  let main_cst : FVec F S_ .bf16 := constant S_ .bf16 0x7F7F#16
  let main_v1 : FVec F S2x4x8x1280 .bf16 := broadcastInDim S2x4x8x1280 ![] bcast_S_S2x4x8x1280 main_cst
  let main_v2 : IVec S2x4x8x1280 1 := cmpf .ole main_v0 main_v1
  let main_c : IVec S_ 1 := constantI S_ 1 1#1
  let main_v3 : IVec S_ 1 := (fun x v => Host.reduce IntOp.andi x v reducesTo_S2x4x8x1280_S_d0_1_2_3 h_S_) main_v2 main_c
  main_v3
-- ==== Kernel.lean ====
abbrev S2x4x8x1280 : Shape := ⟨4, ![2, 4, 8, 1280]⟩
abbrev S1280x2560x3x3 : Shape := ⟨4, ![1280, 2560, 3, 3]⟩
abbrev S1280 : Shape := ⟨1, ![1280]⟩
abbrev S3x3x1280x2560 : Shape := ⟨4, ![3, 3, 1280, 2560]⟩
abbrev S9x1280x2560 : Shape := ⟨3, ![9, 1280, 2560]⟩
abbrev S1x1280 : Shape := ⟨2, ![1, 1280]⟩
abbrev S2x4x2x16x2560 : Shape := ⟨5, ![2, 4, 2, 16, 2560]⟩
abbrev S2 : Shape := ⟨1, ![2]⟩
abbrev S2x2x2x32x1280 : Shape := ⟨5, ![2, 2, 2, 32, 1280]⟩
abbrev S45 : Shape := ⟨1, ![45]⟩
abbrev S10 : Shape := ⟨1, ![10]⟩
abbrev S1 : Shape := ⟨1, ![1]⟩
abbrev S_ : Shape := ⟨0, ![]⟩
abbrev S1x1280x512 : Shape := ⟨3, ![1, 1280, 512]⟩
abbrev S1280x512 : Shape := ⟨2, ![1280, 512]⟩
abbrev S1x1x1280 : Shape := ⟨3, ![1, 1, 1280]⟩
abbrev S4x8x1280 : Shape := ⟨3, ![4, 8, 1280]⟩
abbrev S1x4x8x1280 : Shape := ⟨4, ![1, 4, 8, 1280]⟩
abbrev S1x1x1x1 : Shape := ⟨4, ![1, 1, 1, 1]⟩
abbrev S1x1x1 : Shape := ⟨3, ![1, 1, 1]⟩
abbrev S4x7x1280 : Shape := ⟨3, ![4, 7, 1280]⟩
abbrev S4x1x1280 : Shape := ⟨3, ![4, 1, 1280]⟩
abbrev S1x8x1280 : Shape := ⟨3, ![1, 8, 1280]⟩
abbrev S3x8x1280 : Shape := ⟨3, ![3, 8, 1280]⟩
abbrev S32x1280 : Shape := ⟨2, ![32, 1280]⟩
abbrev S1x1x1x32x1280 : Shape := ⟨5, ![1, 1, 1, 32, 1280]⟩
abbrev S1x1x2x32x1280 : Shape := ⟨5, ![1, 1, 2, 32, 1280]⟩
abbrev S2x32x1280 : Shape := ⟨3, ![2, 32, 1280]⟩
abbrev S64x1280 : Shape := ⟨2, ![64, 1280]⟩
abbrev S64x512 : Shape := ⟨2, ![64, 512]⟩
abbrev S2x4x8x512 : Shape := ⟨4, ![2, 4, 8, 512]⟩
abbrev S1x4x8x512 : Shape := ⟨4, ![1, 4, 8, 512]⟩
abbrev S4x8x512 : Shape := ⟨3, ![4, 8, 512]⟩
abbrev S1x8x512 : Shape := ⟨3, ![1, 8, 512]⟩
abbrev S8x512 : Shape := ⟨2, ![8, 512]⟩
abbrev S16x512 : Shape := ⟨2, ![16, 512]⟩
abbrev S1x1x1x16x512 : Shape := ⟨5, ![1, 1, 1, 16, 512]⟩
abbrev S2x4x1x16x512 : Shape := ⟨5, ![2, 4, 1, 16, 512]⟩
abbrev S2x4x16x512 : Shape := ⟨4, ![2, 4, 16, 512]⟩
abbrev S2x8x16x2560 : Shape := ⟨4, ![2, 8, 16, 2560]⟩

abbrev nBuf : Space → Nat
  | .hbm => 10
  | .vmem => 6
  | .smem => 1
  | _ => 0

abbrev bufTy : (tb : Table) → Fin (tcTables nBuf tb) → BufTy
  | .hbm, ⟨0, _⟩ => ⟨S2x4x8x1280, .bf16⟩
  | .hbm, ⟨1, _⟩ => ⟨S1280x2560x3x3, .fp8e4m3⟩
  | .hbm, ⟨2, _⟩ => ⟨S1280, .f32⟩
  | .hbm, ⟨3, _⟩ => ⟨S3x3x1280x2560, .fp8e4m3⟩
  | .hbm, ⟨4, _⟩ => ⟨S9x1280x2560, .fp8e4m3⟩
  | .hbm, ⟨5, _⟩ => ⟨S1x1280, .f32⟩
  | .hbm, ⟨6, _⟩ => ⟨S2x4x2x16x2560, .bf16⟩
  | .hbm, ⟨7, _⟩ => ⟨S2x4x8x1280, .fp8e5m2⟩
  | .hbm, ⟨8, _⟩ => ⟨S2, .f32⟩
  | .hbm, ⟨9, _⟩ => ⟨S2x8x16x2560, .bf16⟩
  | .local _ .vmem, ⟨0, _⟩ => ⟨S2x4x8x1280, .bf16⟩
  | .local _ .vmem, ⟨1, _⟩ => ⟨S1x1280, .f32⟩
  | .local _ .vmem, ⟨2, _⟩ => ⟨S9x1280x2560, .fp8e4m3⟩
  | .local _ .vmem, ⟨3, _⟩ => ⟨S2x2x2x32x1280, .bf16⟩
  | .local _ .vmem, ⟨4, _⟩ => ⟨S2x4x2x16x2560, .bf16⟩
  | .local _ .vmem, ⟨5, _⟩ => ⟨S2x4x8x1280, .fp8e5m2⟩
  | .local _ .smem, ⟨0, _⟩ => ⟨S2, .f32⟩
  | _, _ => ⟨S2x4x8x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.smem, 0, rfl⟩

abbrev nD : Nat := 1
abbrev τ : Topo := Topo.v7x

variable {F : FTy → Type} [BitOps F]

abbrev grid0 : Pipeline.Grid := .none
-- ==== KernelIdeal.lean ====
variable {F : FTy → Type} [FloatOps F]
-- ==== ReferenceIdeal.lean ====
abbrev S2x4x8x1280 : Shape := ⟨4, ![2, 4, 8, 1280]⟩
abbrev S1280x2560x3x3 : Shape := ⟨4, ![1280, 2560, 3, 3]⟩
abbrev S1280 : Shape := ⟨1, ![1280]⟩
abbrev S2x8x16x2560 : Shape := ⟨4, ![2, 8, 16, 2560]⟩
abbrev S2 : Shape := ⟨1, ![2]⟩
abbrev S2x1x1x1 : Shape := ⟨4, ![2, 1, 1, 1]⟩
abbrev S1x1x1x254 : Shape := ⟨4, ![1, 1, 1, 254]⟩
abbrev S2x1x1x254 : Shape := ⟨4, ![2, 1, 1, 254]⟩
abbrev S2x1x1 : Shape := ⟨3, ![2, 1, 1]⟩
abbrev S1280x1x1x1 : Shape := ⟨4, ![1280, 1, 1, 1]⟩
abbrev S2x4x1x8x1280 : Shape := ⟨5, ![2, 4, 1, 8, 1280]⟩
abbrev S2x4x2x8x1280 : Shape := ⟨5, ![2, 4, 2, 8, 1280]⟩
abbrev S2x8x8x1280 : Shape := ⟨4, ![2, 8, 8, 1280]⟩
abbrev S2x8x8x1x1280 : Shape := ⟨5, ![2, 8, 8, 1, 1280]⟩
abbrev S2x8x8x2x1280 : Shape := ⟨5, ![2, 8, 8, 2, 1280]⟩
abbrev S2x8x16x1280 : Shape := ⟨4, ![2, 8, 16, 1280]⟩
abbrev S2x1x16x1280 : Shape := ⟨4, ![2, 1, 16, 1280]⟩
abbrev S2x9x16x1280 : Shape := ⟨4, ![2, 9, 16, 1280]⟩
abbrev S2x10x16x1280 : Shape := ⟨4, ![2, 10, 16, 1280]⟩
abbrev S2x10x1x1280 : Shape := ⟨4, ![2, 10, 1, 1280]⟩
abbrev S2x10x17x1280 : Shape := ⟨4, ![2, 10, 17, 1280]⟩
abbrev S2x10x18x1280 : Shape := ⟨4, ![2, 10, 18, 1280]⟩
abbrev S256x1280 : Shape := ⟨2, ![256, 1280]⟩
abbrev S1280x2560x1x1 : Shape := ⟨4, ![1280, 2560, 1, 1]⟩
abbrev S1280x2560 : Shape := ⟨2, ![1280, 2560]⟩
abbrev S256x2560 : Shape := ⟨2, ![256, 2560]⟩

abbrev nBuf : Space → Nat
  | .hbm => 6
  | .vmem => 6
  | .smem => 0
  | _ => 0

abbrev bufTy : (tb : Table) → Fin (tcTables nBuf tb) → BufTy
  | .hbm, ⟨0, _⟩ => ⟨S2x4x8x1280, .bf16⟩
  | .hbm, ⟨1, _⟩ => ⟨S1280x2560x3x3, .fp8e4m3⟩
  | .hbm, ⟨2, _⟩ => ⟨S1280, .f32⟩
  | .hbm, ⟨3, _⟩ => ⟨S2x8x16x2560, .bf16⟩
  | .hbm, ⟨4, _⟩ => ⟨S2x4x8x1280, .fp8e5m2⟩
  | .hbm, ⟨5, _⟩ => ⟨S2, .f32⟩
  | .local _ .vmem, ⟨0, _⟩ => ⟨S2x4x8x1280, .bf16⟩
  | .local _ .vmem, ⟨1, _⟩ => ⟨S1280x2560x3x3, .fp8e4m3⟩
  | .local _ .vmem, ⟨2, _⟩ => ⟨S1280, .f32⟩
  | .local _ .vmem, ⟨3, _⟩ => ⟨S2x8x16x2560, .bf16⟩
  | .local _ .vmem, ⟨4, _⟩ => ⟨S2x4x8x1280, .fp8e5m2⟩
  | .local _ .vmem, ⟨5, _⟩ => ⟨S2, .f32⟩
  | _, _ => ⟨S2x4x8x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x4x8x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x2560x3x3 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x16x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x8x1280 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
/-
  The run of the kernel body on one TensorCore, by symbolic execution: from every buffer that the body uses, it runs to
  its end, leaves the operands as they were and every transfer counter at zero, and leaves in the three results the
  contents that the run itself names (`kernelRun`'s first component).
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffixV
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-- The incoming gradient, in HBM. -/
abbrev mDy : Memref sig .tc .hbm S2x4x8x1280 .bf16 := Memref.whole main_arg0
/-- The channel scales as one row, in HBM. -/
abbrev mWs : Memref sig .tc .hbm S1x1280 .f32 := Memref.whole main_v2
/-- The codes' result, in HBM. -/
abbrev mCo : Memref sig .tc .hbm S2x4x8x1280 .fp8e5m2 := Memref.whole main_v3_1
/-- The scales' result, in HBM. -/
abbrev mSc : Memref sig .tc .hbm S2 .f32 := Memref.whole main_v3_2
/-- Scratch: the incoming gradient. -/
abbrev mS0 : Memref sig .tc .vmem S2x4x8x1280 .bf16 := Memref.whole cc0_scratch0
/-- Scratch: the channel scales. -/
abbrev mS1 : Memref sig .tc .vmem S1x1280 .f32 := Memref.whole cc0_scratch1
/-- Scratch: the left operands. -/
abbrev mS3 : Memref sig .tc .vmem S2x2x2x32x1280 .bf16 := Memref.whole cc0_scratch3
/-- Scratch: the codes. -/
abbrev mS5 : Memref sig .tc .vmem S2x4x8x1280 .fp8e5m2 := Memref.whole cc0_scratch5
/-- Scratch: the scales. -/
abbrev mS6 : Memref sig .tc .smem S2 .f32 := Memref.whole cc0_scratch6
/-- Scratch: the nine weight matrices. -/
abbrev mW : Memref sig .tc .vmem S9x1280x2560 .fp8e4m3 := Memref.whole cc0_scratch2
/-- Scratch: the input gradient, by row and column parity. -/
abbrev mO : Memref sig .tc .vmem S2x4x2x16x2560 .bf16 := Memref.whole cc0_scratch4
/-- The input gradient, in HBM. -/
abbrev mX : Memref sig .tc .hbm S2x4x2x16x2560 .bf16 := Memref.whole main_v3_0
/-- The nine weight matrices, in HBM. -/
abbrev mWh : Memref sig .tc .hbm S9x1280x2560 .fp8e4m3 := Memref.whole main_v1
/-- The contents of the buffer under `M` on device `c`. -/
abbrev BufOf (c : Dev nD) {sp : Space} {S : Shape} {e : EltTy} (M : Memref sig .tc sp S e) : Type := Buf (Elt F) (M.view.loc (c : Thread nD τ))
/-- `M` held whole at contents `f`. -/
abbrev pt (c : Dev nD) {sp : Space} {S : Shape} {e : EltTy} (M : Memref sig .tc sp S e) (f : BufOf (F := F) c M) : sProp 𝕄 :=
  M.view.loc (c : Thread nD τ) ↦{fullShare} f
/-- Read token `n` of `M`, whole. -/
abbrev tok (c : Dev nD) {sp : Space} {S : Shape} {e : EltTy} (M : Memref sig .tc sp S e) (n : ℕ) (f : BufOf (F := F) c M) : sProp 𝕄 :=
  M.view.loc (c : Thread nD τ) ↦{Transfers.shareTokN fullShare n} f
/-- `M` held by its elements under the rectangle `R`. -/
abbrev win (c : Dev nD) {sp : Space} {S : Shape} {e : EltTy} (M : Memref sig .tc sp S e) (R : Rect S) (f : BufOf (F := F) c M) : sProp 𝕄 :=
  M.view.loc (c : Thread nD τ) ↦[M.view.setOn R.set]{fullShare} f
/-- Transfer counter `n` at zero. -/
abbrev cell (c : Dev nD) (n : DmaSem sig) : sProp 𝕄 := semVal ((c : Thread nD τ), SemLoc.dma n) 0

/-- What a run leaves in the results: the input gradient's ten windows `x0` … `x9` (window `2 g + s` has row parity `s` and the
    `g`-th 512 output channels), the codes and the scales. -/
structure Out (c : Dev nD) where
  x0 : BufOf (F := F) c mX
  x1 : BufOf (F := F) c mX
  x2 : BufOf (F := F) c mX
  x3 : BufOf (F := F) c mX
  x4 : BufOf (F := F) c mX
  x5 : BufOf (F := F) c mX
  x6 : BufOf (F := F) c mX
  x7 : BufOf (F := F) c mX
  x8 : BufOf (F := F) c mX
  x9 : BufOf (F := F) c mX
  co : BufOf (F := F) c mCo
  sc : BufOf (F := F) c mSc

/-- The kernel body on the kernel's own buffers. -/
abbrev body : Prog (TpuEff nD τ sig (Elt F) Λ₀ .tc) PUnit :=
  cc0_conv3x3_dgrad mDy (Memref.isWhole_whole _) mWh (Memref.isWhole_whole _) mWs (Memref.isWhole_whole _) mX (Memref.isWhole_whole _)
    mCo (Memref.isWhole_whole _) mSc (Memref.isWhole_whole _) mS0 (Memref.isWhole_whole _) mS1 (Memref.isWhole_whole _)
    mW (Memref.isWhole_whole _) mS3 (Memref.isWhole_whole _) mO (Memref.isWhole_whole _) mS5 (Memref.isWhole_whole _)
    mS6 (Memref.isWhole_whole _) cc0_scratch7 cc0_scratch8 cc0_scratch9 cc0_scratch10

/-- What the body starts from: the small buffers whole, one read token of the weights per weight transfer, the weights'
    scratch by its forty-five landing windows, the input gradient's scratch and result by their ten windows, every counter
    at zero. -/
def Start (c : Dev nD) (dy : BufOf (F := F) c mDy) (ws : BufOf (F := F) c mWs) (co : BufOf (F := F) c mCo) (sc : BufOf (F := F) c mSc) (s0 : BufOf (F := F) c mS0) (s1 : BufOf (F := F) c mS1) (s3 : BufOf (F := F) c mS3) (s5 : BufOf (F := F) c mS5) (s6 : BufOf (F := F) c mS6) (w : BufOf (F := F) c mWh) (s2 : BufOf (F := F) c mW) (s4 : BufOf (F := F) c mO) (dx : BufOf (F := F) c mX) : sProp 𝕄 :=
  iprop(pt c mDy dy ∗ pt c mWs ws ∗ pt c mCo co ∗ pt c mSc sc ∗ pt c mS0 s0 ∗ pt c mS1 s1 ∗ pt c mS3 s3 ∗ pt c mS5 s5 ∗ pt c mS6 s6 ∗ tok c mWh 2 w
    ∗ tok c mWh 3 w ∗ tok c mWh 4 w ∗ tok c mWh 5 w ∗ tok c mWh 6 w ∗ tok c mWh 7 w ∗ tok c mWh 8 w ∗ tok c mWh 9 w ∗ tok c mWh 10 w ∗ tok c mWh 11 w
    ∗ tok c mWh 12 w ∗ tok c mWh 13 w ∗ tok c mWh 14 w ∗ tok c mWh 15 w ∗ tok c mWh 16 w ∗ tok c mWh 17 w ∗ tok c mWh 18 w ∗ tok c mWh 19 w
    ∗ tok c mWh 20 w ∗ tok c mWh 21 w ∗ tok c mWh 22 w ∗ tok c mWh 23 w ∗ tok c mWh 24 w ∗ tok c mWh 25 w ∗ tok c mWh 26 w ∗ tok c mWh 27 w
    ∗ tok c mWh 28 w ∗ tok c mWh 29 w ∗ tok c mWh 30 w ∗ tok c mWh 31 w ∗ tok c mWh 32 w ∗ tok c mWh 33 w ∗ tok c mWh 34 w ∗ tok c mWh 35 w
    ∗ tok c mWh 36 w ∗ tok c mWh 37 w ∗ tok c mWh 38 w ∗ tok c mWh 39 w ∗ tok c mWh 40 w ∗ tok c mWh 41 w ∗ tok c mWh 42 w ∗ tok c mWh 43 w
    ∗ tok c mWh 44 w ∗ tok c mWh 45 w ∗ tok c mWh 46 w
    ∗ win c mW (Rect.unit (s := S9x1280x2560) ![0, 0, 0] S1x1280x512.size inb_S9x1280x2560_S1x1280x512_0_0_0) s2
    ∗ win c mW (Rect.unit (s := S9x1280x2560) ![1, 0, 0] S1x1280x512.size inb_S9x1280x2560_S1x1280x512_1_0_0) s2
    ∗ win c mW (Rect.unit (s := S9x1280x2560) ![2, 0, 0] S1x1280x512.size inb_S9x1280x2560_S1x1280x512_2_0_0) s2
    ∗ win c mW (Rect.unit (s := S9x1280x2560) ![3, 0, 0] S1x1280x512.size inb_S9x1280x2560_S1x1280x512_3_0_0) s2
    ∗ win c mW (Rect.unit (s := S9x1280x2560) ![4, 0, 0] S1x1280x512.size inb_S9x1280x2560_S1x1280x512_4_0_0) s2
    ∗ win c mW (Rect.unit (s := S9x1280x2560) ![5, 0, 0] S1x1280x512.size inb_S9x1280x2560_S1x1280x512_5_0_0) s2
    ∗ win c mW (Rect.unit (s := S9x1280x2560) ![6, 0, 0] S1x1280x512.size inb_S9x1280x2560_S1x1280x512_6_0_0) s2
    ∗ win c mW (Rect.unit (s := S9x1280x2560) ![7, 0, 0] S1x1280x512.size inb_S9x1280x2560_S1x1280x512_7_0_0) s2
    ∗ win c mW (Rect.unit (s := S9x1280x2560) ![8, 0, 0] S1x1280x512.size inb_S9x1280x2560_S1x1280x512_8_0_0) s2
    ∗ win c mW (Rect.unit (s := S9x1280x2560) ![0, 0, 512] S1x1280x512.size inb_S9x1280x2560_S1x1280x512_0_0_512) s2
    ∗ win c mW (Rect.unit (s := S9x1280x2560) ![1, 0, 512] S1x1280x512.size inb_S9x1280x2560_S1x1280x512_1_0_512) s2
    ∗ win c mW (Rect.unit (s := S9x1280x2560) ![2, 0, 512] S1x1280x512.size inb_S9x1280x2560_S1x1280x512_2_0_512) s2
    ∗ win c mW (Rect.unit (s := S9x1280x2560) ![3, 0, 512] S1x1280x512.size inb_S9x1280x2560_S1x1280x512_3_0_512) s2
    ∗ win c mW (Rect.unit (s := S9x1280x2560) ![4, 0, 512] S1x1280x512.size inb_S9x1280x2560_S1x1280x512_4_0_512) s2
    ∗ win c mW (Rect.unit (s := S9x1280x2560) ![5, 0, 512] S1x1280x512.size inb_S9x1280x2560_S1x1280x512_5_0_512) s2
    ∗ win c mW (Rect.unit (s := S9x1280x2560) ![6, 0, 512] S1x1280x512.size inb_S9x1280x2560_S1x1280x512_6_0_512) s2
    ∗ win c mW (Rect.unit (s := S9x1280x2560) ![7, 0, 512] S1x1280x512.size inb_S9x1280x2560_S1x1280x512_7_0_512) s2
    ∗ win c mW (Rect.unit (s := S9x1280x2560) ![8, 0, 512] S1x1280x512.size inb_S9x1280x2560_S1x1280x512_8_0_512) s2
    ∗ win c mW (Rect.unit (s := S9x1280x2560) ![0, 0, 1024] S1x1280x512.size inb_S9x1280x2560_S1x1280x512_0_0_1024) s2
    ∗ win c mW (Rect.unit (s := S9x1280x2560) ![1, 0, 1024] S1x1280x512.size inb_S9x1280x2560_S1x1280x512_1_0_1024) s2
    ∗ win c mW (Rect.unit (s := S9x1280x2560) ![2, 0, 1024] S1x1280x512.size inb_S9x1280x2560_S1x1280x512_2_0_1024) s2
    ∗ win c mW (Rect.unit (s := S9x1280x2560) ![3, 0, 1024] S1x1280x512.size inb_S9x1280x2560_S1x1280x512_3_0_1024) s2
    ∗ win c mW (Rect.unit (s := S9x1280x2560) ![4, 0, 1024] S1x1280x512.size inb_S9x1280x2560_S1x1280x512_4_0_1024) s2
    ∗ win c mW (Rect.unit (s := S9x1280x2560) ![5, 0, 1024] S1x1280x512.size inb_S9x1280x2560_S1x1280x512_5_0_1024) s2
    ∗ win c mW (Rect.unit (s := S9x1280x2560) ![6, 0, 1024] S1x1280x512.size inb_S9x1280x2560_S1x1280x512_6_0_1024) s2
    ∗ win c mW (Rect.unit (s := S9x1280x2560) ![7, 0, 1024] S1x1280x512.size inb_S9x1280x2560_S1x1280x512_7_0_1024) s2
    ∗ win c mW (Rect.unit (s := S9x1280x2560) ![8, 0, 1024] S1x1280x512.size inb_S9x1280x2560_S1x1280x512_8_0_1024) s2
    ∗ win c mW (Rect.unit (s := S9x1280x2560) ![0, 0, 1536] S1x1280x512.size inb_S9x1280x2560_S1x1280x512_0_0_1536) s2
    ∗ win c mW (Rect.unit (s := S9x1280x2560) ![1, 0, 1536] S1x1280x512.size inb_S9x1280x2560_S1x1280x512_1_0_1536) s2
    ∗ win c mW (Rect.unit (s := S9x1280x2560) ![2, 0, 1536] S1x1280x512.size inb_S9x1280x2560_S1x1280x512_2_0_1536) s2
    ∗ win c mW (Rect.unit (s := S9x1280x2560) ![3, 0, 1536] S1x1280x512.size inb_S9x1280x2560_S1x1280x512_3_0_1536) s2
    ∗ win c mW (Rect.unit (s := S9x1280x2560) ![4, 0, 1536] S1x1280x512.size inb_S9x1280x2560_S1x1280x512_4_0_1536) s2
    ∗ win c mW (Rect.unit (s := S9x1280x2560) ![5, 0, 1536] S1x1280x512.size inb_S9x1280x2560_S1x1280x512_5_0_1536) s2
    ∗ win c mW (Rect.unit (s := S9x1280x2560) ![6, 0, 1536] S1x1280x512.size inb_S9x1280x2560_S1x1280x512_6_0_1536) s2
    ∗ win c mW (Rect.unit (s := S9x1280x2560) ![7, 0, 1536] S1x1280x512.size inb_S9x1280x2560_S1x1280x512_7_0_1536) s2
    ∗ win c mW (Rect.unit (s := S9x1280x2560) ![8, 0, 1536] S1x1280x512.size inb_S9x1280x2560_S1x1280x512_8_0_1536) s2
    ∗ win c mW (Rect.unit (s := S9x1280x2560) ![0, 0, 2048] S1x1280x512.size inb_S9x1280x2560_S1x1280x512_0_0_2048) s2
    ∗ win c mW (Rect.unit (s := S9x1280x2560) ![1, 0, 2048] S1x1280x512.size inb_S9x1280x2560_S1x1280x512_1_0_2048) s2
    ∗ win c mW (Rect.unit (s := S9x1280x2560) ![2, 0, 2048] S1x1280x512.size inb_S9x1280x2560_S1x1280x512_2_0_2048) s2
    ∗ win c mW (Rect.unit (s := S9x1280x2560) ![3, 0, 2048] S1x1280x512.size inb_S9x1280x2560_S1x1280x512_3_0_2048) s2
    ∗ win c mW (Rect.unit (s := S9x1280x2560) ![4, 0, 2048] S1x1280x512.size inb_S9x1280x2560_S1x1280x512_4_0_2048) s2
    ∗ win c mW (Rect.unit (s := S9x1280x2560) ![5, 0, 2048] S1x1280x512.size inb_S9x1280x2560_S1x1280x512_5_0_2048) s2
    ∗ win c mW (Rect.unit (s := S9x1280x2560) ![6, 0, 2048] S1x1280x512.size inb_S9x1280x2560_S1x1280x512_6_0_2048) s2
    ∗ win c mW (Rect.unit (s := S9x1280x2560) ![7, 0, 2048] S1x1280x512.size inb_S9x1280x2560_S1x1280x512_7_0_2048) s2
    ∗ win c mW (Rect.unit (s := S9x1280x2560) ![8, 0, 2048] S1x1280x512.size inb_S9x1280x2560_S1x1280x512_8_0_2048) s2
    ∗ win c mO (Rect.unit (s := S2x4x2x16x2560) ![0, 0, 1, 0, 0] S2x4x1x16x512.size inb_S2x4x2x16x2560_S2x4x1x16x512_0_0_1_0_0) s4
    ∗ win c mO (Rect.unit (s := S2x4x2x16x2560) ![0, 0, 0, 0, 0] S2x4x1x16x512.size inb_S2x4x2x16x2560_S2x4x1x16x512_0_0_0_0_0) s4
    ∗ win c mO (Rect.unit (s := S2x4x2x16x2560) ![0, 0, 1, 0, 512] S2x4x1x16x512.size inb_S2x4x2x16x2560_S2x4x1x16x512_0_0_1_0_512) s4
    ∗ win c mO (Rect.unit (s := S2x4x2x16x2560) ![0, 0, 0, 0, 512] S2x4x1x16x512.size inb_S2x4x2x16x2560_S2x4x1x16x512_0_0_0_0_512) s4
    ∗ win c mO (Rect.unit (s := S2x4x2x16x2560) ![0, 0, 1, 0, 1024] S2x4x1x16x512.size inb_S2x4x2x16x2560_S2x4x1x16x512_0_0_1_0_1024) s4
    ∗ win c mO (Rect.unit (s := S2x4x2x16x2560) ![0, 0, 0, 0, 1024] S2x4x1x16x512.size inb_S2x4x2x16x2560_S2x4x1x16x512_0_0_0_0_1024) s4
    ∗ win c mO (Rect.unit (s := S2x4x2x16x2560) ![0, 0, 1, 0, 1536] S2x4x1x16x512.size inb_S2x4x2x16x2560_S2x4x1x16x512_0_0_1_0_1536) s4
    ∗ win c mO (Rect.unit (s := S2x4x2x16x2560) ![0, 0, 0, 0, 1536] S2x4x1x16x512.size inb_S2x4x2x16x2560_S2x4x1x16x512_0_0_0_0_1536) s4
    ∗ win c mO (Rect.unit (s := S2x4x2x16x2560) ![0, 0, 1, 0, 2048] S2x4x1x16x512.size inb_S2x4x2x16x2560_S2x4x1x16x512_0_0_1_0_2048) s4
    ∗ win c mO (Rect.unit (s := S2x4x2x16x2560) ![0, 0, 0, 0, 2048] S2x4x1x16x512.size inb_S2x4x2x16x2560_S2x4x1x16x512_0_0_0_0_2048) s4
    ∗ win c mX (Rect.unit (s := S2x4x2x16x2560) ![0, 0, 0, 0, 0] S2x4x1x16x512.size inb_S2x4x2x16x2560_S2x4x1x16x512_0_0_0_0_0) dx
    ∗ win c mX (Rect.unit (s := S2x4x2x16x2560) ![0, 0, 1, 0, 0] S2x4x1x16x512.size inb_S2x4x2x16x2560_S2x4x1x16x512_0_0_1_0_0) dx
    ∗ win c mX (Rect.unit (s := S2x4x2x16x2560) ![0, 0, 0, 0, 512] S2x4x1x16x512.size inb_S2x4x2x16x2560_S2x4x1x16x512_0_0_0_0_512) dx
    ∗ win c mX (Rect.unit (s := S2x4x2x16x2560) ![0, 0, 1, 0, 512] S2x4x1x16x512.size inb_S2x4x2x16x2560_S2x4x1x16x512_0_0_1_0_512) dx
    ∗ win c mX (Rect.unit (s := S2x4x2x16x2560) ![0, 0, 0, 0, 1024] S2x4x1x16x512.size inb_S2x4x2x16x2560_S2x4x1x16x512_0_0_0_0_1024) dx
    ∗ win c mX (Rect.unit (s := S2x4x2x16x2560) ![0, 0, 1, 0, 1024] S2x4x1x16x512.size inb_S2x4x2x16x2560_S2x4x1x16x512_0_0_1_0_1024) dx
    ∗ win c mX (Rect.unit (s := S2x4x2x16x2560) ![0, 0, 0, 0, 1536] S2x4x1x16x512.size inb_S2x4x2x16x2560_S2x4x1x16x512_0_0_0_0_1536) dx
    ∗ win c mX (Rect.unit (s := S2x4x2x16x2560) ![0, 0, 1, 0, 1536] S2x4x1x16x512.size inb_S2x4x2x16x2560_S2x4x1x16x512_0_0_1_0_1536) dx
    ∗ win c mX (Rect.unit (s := S2x4x2x16x2560) ![0, 0, 0, 0, 2048] S2x4x1x16x512.size inb_S2x4x2x16x2560_S2x4x1x16x512_0_0_0_0_2048) dx
    ∗ win c mX (Rect.unit (s := S2x4x2x16x2560) ![0, 0, 1, 0, 2048] S2x4x1x16x512.size inb_S2x4x2x16x2560_S2x4x1x16x512_0_0_1_0_2048) dx ∗ cell c 0
    ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13
    ∗ cell c 14 ∗ cell c 15 ∗ cell c 16 ∗ cell c 17 ∗ cell c 18 ∗ cell c 19 ∗ cell c 20 ∗ cell c 21 ∗ cell c 22 ∗ cell c 23 ∗ cell c 24 ∗ cell c 25
    ∗ cell c 26 ∗ cell c 27 ∗ cell c 28 ∗ cell c 29 ∗ cell c 30 ∗ cell c 31 ∗ cell c 32 ∗ cell c 33 ∗ cell c 34 ∗ cell c 35 ∗ cell c 36 ∗ cell c 37
    ∗ cell c 38 ∗ cell c 39 ∗ cell c 40 ∗ cell c 41 ∗ cell c 42 ∗ cell c 43 ∗ cell c 44 ∗ cell c 45 ∗ cell c 46 ∗ cell c 47 ∗ cell c 48 ∗ cell c 49
    ∗ cell c 50 ∗ cell c 51 ∗ cell c 52 ∗ cell c 53 ∗ cell c 54 ∗ cell c 55 ∗ cell c 56 ∗ cell c 57 ∗ cell c 58)

/-- What the body ends with: as `Start`, the results at `out`, the scratch buffers at contents that are not named. -/
def End (c : Dev nD) (dy : BufOf (F := F) c mDy) (ws : BufOf (F := F) c mWs) (w : BufOf (F := F) c mWh) (out : Out (F := F) c) : sProp 𝕄 :=
  iprop(pt c mDy dy ∗ pt c mWs ws ∗ pt c mCo out.co ∗ pt c mSc out.sc ∗ (∃ f, pt c mS0 f) ∗ (∃ f, pt c mS1 f) ∗ (∃ f, pt c mS3 f) ∗ (∃ f, pt c mS5 f)
    ∗ (∃ f, pt c mS6 f) ∗ tok c mWh 2 w ∗ tok c mWh 3 w ∗ tok c mWh 4 w ∗ tok c mWh 5 w ∗ tok c mWh 6 w ∗ tok c mWh 7 w ∗ tok c mWh 8 w
    ∗ tok c mWh 9 w ∗ tok c mWh 10 w ∗ tok c mWh 11 w ∗ tok c mWh 12 w ∗ tok c mWh 13 w ∗ tok c mWh 14 w ∗ tok c mWh 15 w ∗ tok c mWh 16 w
    ∗ tok c mWh 17 w ∗ tok c mWh 18 w ∗ tok c mWh 19 w ∗ tok c mWh 20 w ∗ tok c mWh 21 w ∗ tok c mWh 22 w ∗ tok c mWh 23 w ∗ tok c mWh 24 w
    ∗ tok c mWh 25 w ∗ tok c mWh 26 w ∗ tok c mWh 27 w ∗ tok c mWh 28 w ∗ tok c mWh 29 w ∗ tok c mWh 30 w ∗ tok c mWh 31 w ∗ tok c mWh 32 w
    ∗ tok c mWh 33 w ∗ tok c mWh 34 w ∗ tok c mWh 35 w ∗ tok c mWh 36 w ∗ tok c mWh 37 w ∗ tok c mWh 38 w ∗ tok c mWh 39 w ∗ tok c mWh 40 w
    ∗ tok c mWh 41 w ∗ tok c mWh 42 w ∗ tok c mWh 43 w ∗ tok c mWh 44 w ∗ tok c mWh 45 w ∗ tok c mWh 46 w
    ∗ (∃ f, win c mW (Rect.unit (s := S9x1280x2560) ![0, 0, 0] S1x1280x512.size inb_S9x1280x2560_S1x1280x512_0_0_0) f)
    ∗ (∃ f, win c mW (Rect.unit (s := S9x1280x2560) ![1, 0, 0] S1x1280x512.size inb_S9x1280x2560_S1x1280x512_1_0_0) f)
    ∗ (∃ f, win c mW (Rect.unit (s := S9x1280x2560) ![2, 0, 0] S1x1280x512.size inb_S9x1280x2560_S1x1280x512_2_0_0) f)
    ∗ (∃ f, win c mW (Rect.unit (s := S9x1280x2560) ![3, 0, 0] S1x1280x512.size inb_S9x1280x2560_S1x1280x512_3_0_0) f)
    ∗ (∃ f, win c mW (Rect.unit (s := S9x1280x2560) ![4, 0, 0] S1x1280x512.size inb_S9x1280x2560_S1x1280x512_4_0_0) f)
    ∗ (∃ f, win c mW (Rect.unit (s := S9x1280x2560) ![5, 0, 0] S1x1280x512.size inb_S9x1280x2560_S1x1280x512_5_0_0) f)
    ∗ (∃ f, win c mW (Rect.unit (s := S9x1280x2560) ![6, 0, 0] S1x1280x512.size inb_S9x1280x2560_S1x1280x512_6_0_0) f)
    ∗ (∃ f, win c mW (Rect.unit (s := S9x1280x2560) ![7, 0, 0] S1x1280x512.size inb_S9x1280x2560_S1x1280x512_7_0_0) f)
    ∗ (∃ f, win c mW (Rect.unit (s := S9x1280x2560) ![8, 0, 0] S1x1280x512.size inb_S9x1280x2560_S1x1280x512_8_0_0) f)
    ∗ (∃ f, win c mW (Rect.unit (s := S9x1280x2560) ![0, 0, 512] S1x1280x512.size inb_S9x1280x2560_S1x1280x512_0_0_512) f)
    ∗ (∃ f, win c mW (Rect.unit (s := S9x1280x2560) ![1, 0, 512] S1x1280x512.size inb_S9x1280x2560_S1x1280x512_1_0_512) f)
    ∗ (∃ f, win c mW (Rect.unit (s := S9x1280x2560) ![2, 0, 512] S1x1280x512.size inb_S9x1280x2560_S1x1280x512_2_0_512) f)
    ∗ (∃ f, win c mW (Rect.unit (s := S9x1280x2560) ![3, 0, 512] S1x1280x512.size inb_S9x1280x2560_S1x1280x512_3_0_512) f)
    ∗ (∃ f, win c mW (Rect.unit (s := S9x1280x2560) ![4, 0, 512] S1x1280x512.size inb_S9x1280x2560_S1x1280x512_4_0_512) f)
    ∗ (∃ f, win c mW (Rect.unit (s := S9x1280x2560) ![5, 0, 512] S1x1280x512.size inb_S9x1280x2560_S1x1280x512_5_0_512) f)
    ∗ (∃ f, win c mW (Rect.unit (s := S9x1280x2560) ![6, 0, 512] S1x1280x512.size inb_S9x1280x2560_S1x1280x512_6_0_512) f)
    ∗ (∃ f, win c mW (Rect.unit (s := S9x1280x2560) ![7, 0, 512] S1x1280x512.size inb_S9x1280x2560_S1x1280x512_7_0_512) f)
    ∗ (∃ f, win c mW (Rect.unit (s := S9x1280x2560) ![8, 0, 512] S1x1280x512.size inb_S9x1280x2560_S1x1280x512_8_0_512) f)
    ∗ (∃ f, win c mW (Rect.unit (s := S9x1280x2560) ![0, 0, 1024] S1x1280x512.size inb_S9x1280x2560_S1x1280x512_0_0_1024) f)
    ∗ (∃ f, win c mW (Rect.unit (s := S9x1280x2560) ![1, 0, 1024] S1x1280x512.size inb_S9x1280x2560_S1x1280x512_1_0_1024) f)
    ∗ (∃ f, win c mW (Rect.unit (s := S9x1280x2560) ![2, 0, 1024] S1x1280x512.size inb_S9x1280x2560_S1x1280x512_2_0_1024) f)
    ∗ (∃ f, win c mW (Rect.unit (s := S9x1280x2560) ![3, 0, 1024] S1x1280x512.size inb_S9x1280x2560_S1x1280x512_3_0_1024) f)
    ∗ (∃ f, win c mW (Rect.unit (s := S9x1280x2560) ![4, 0, 1024] S1x1280x512.size inb_S9x1280x2560_S1x1280x512_4_0_1024) f)
    ∗ (∃ f, win c mW (Rect.unit (s := S9x1280x2560) ![5, 0, 1024] S1x1280x512.size inb_S9x1280x2560_S1x1280x512_5_0_1024) f)
    ∗ (∃ f, win c mW (Rect.unit (s := S9x1280x2560) ![6, 0, 1024] S1x1280x512.size inb_S9x1280x2560_S1x1280x512_6_0_1024) f)
    ∗ (∃ f, win c mW (Rect.unit (s := S9x1280x2560) ![7, 0, 1024] S1x1280x512.size inb_S9x1280x2560_S1x1280x512_7_0_1024) f)
    ∗ (∃ f, win c mW (Rect.unit (s := S9x1280x2560) ![8, 0, 1024] S1x1280x512.size inb_S9x1280x2560_S1x1280x512_8_0_1024) f)
    ∗ (∃ f, win c mW (Rect.unit (s := S9x1280x2560) ![0, 0, 1536] S1x1280x512.size inb_S9x1280x2560_S1x1280x512_0_0_1536) f)
    ∗ (∃ f, win c mW (Rect.unit (s := S9x1280x2560) ![1, 0, 1536] S1x1280x512.size inb_S9x1280x2560_S1x1280x512_1_0_1536) f)
    ∗ (∃ f, win c mW (Rect.unit (s := S9x1280x2560) ![2, 0, 1536] S1x1280x512.size inb_S9x1280x2560_S1x1280x512_2_0_1536) f)
    ∗ (∃ f, win c mW (Rect.unit (s := S9x1280x2560) ![3, 0, 1536] S1x1280x512.size inb_S9x1280x2560_S1x1280x512_3_0_1536) f)
    ∗ (∃ f, win c mW (Rect.unit (s := S9x1280x2560) ![4, 0, 1536] S1x1280x512.size inb_S9x1280x2560_S1x1280x512_4_0_1536) f)
    ∗ (∃ f, win c mW (Rect.unit (s := S9x1280x2560) ![5, 0, 1536] S1x1280x512.size inb_S9x1280x2560_S1x1280x512_5_0_1536) f)
    ∗ (∃ f, win c mW (Rect.unit (s := S9x1280x2560) ![6, 0, 1536] S1x1280x512.size inb_S9x1280x2560_S1x1280x512_6_0_1536) f)
    ∗ (∃ f, win c mW (Rect.unit (s := S9x1280x2560) ![7, 0, 1536] S1x1280x512.size inb_S9x1280x2560_S1x1280x512_7_0_1536) f)
    ∗ (∃ f, win c mW (Rect.unit (s := S9x1280x2560) ![8, 0, 1536] S1x1280x512.size inb_S9x1280x2560_S1x1280x512_8_0_1536) f)
    ∗ (∃ f, win c mW (Rect.unit (s := S9x1280x2560) ![0, 0, 2048] S1x1280x512.size inb_S9x1280x2560_S1x1280x512_0_0_2048) f)
    ∗ (∃ f, win c mW (Rect.unit (s := S9x1280x2560) ![1, 0, 2048] S1x1280x512.size inb_S9x1280x2560_S1x1280x512_1_0_2048) f)
    ∗ (∃ f, win c mW (Rect.unit (s := S9x1280x2560) ![2, 0, 2048] S1x1280x512.size inb_S9x1280x2560_S1x1280x512_2_0_2048) f)
    ∗ (∃ f, win c mW (Rect.unit (s := S9x1280x2560) ![3, 0, 2048] S1x1280x512.size inb_S9x1280x2560_S1x1280x512_3_0_2048) f)
    ∗ (∃ f, win c mW (Rect.unit (s := S9x1280x2560) ![4, 0, 2048] S1x1280x512.size inb_S9x1280x2560_S1x1280x512_4_0_2048) f)
    ∗ (∃ f, win c mW (Rect.unit (s := S9x1280x2560) ![5, 0, 2048] S1x1280x512.size inb_S9x1280x2560_S1x1280x512_5_0_2048) f)
    ∗ (∃ f, win c mW (Rect.unit (s := S9x1280x2560) ![6, 0, 2048] S1x1280x512.size inb_S9x1280x2560_S1x1280x512_6_0_2048) f)
    ∗ (∃ f, win c mW (Rect.unit (s := S9x1280x2560) ![7, 0, 2048] S1x1280x512.size inb_S9x1280x2560_S1x1280x512_7_0_2048) f)
    ∗ (∃ f, win c mW (Rect.unit (s := S9x1280x2560) ![8, 0, 2048] S1x1280x512.size inb_S9x1280x2560_S1x1280x512_8_0_2048) f)
    ∗ (∃ f, win c mO (Rect.unit (s := S2x4x2x16x2560) ![0, 0, 1, 0, 0] S2x4x1x16x512.size inb_S2x4x2x16x2560_S2x4x1x16x512_0_0_1_0_0) f)
    ∗ (∃ f, win c mO (Rect.unit (s := S2x4x2x16x2560) ![0, 0, 0, 0, 0] S2x4x1x16x512.size inb_S2x4x2x16x2560_S2x4x1x16x512_0_0_0_0_0) f)
    ∗ (∃ f, win c mO (Rect.unit (s := S2x4x2x16x2560) ![0, 0, 1, 0, 512] S2x4x1x16x512.size inb_S2x4x2x16x2560_S2x4x1x16x512_0_0_1_0_512) f)
    ∗ (∃ f, win c mO (Rect.unit (s := S2x4x2x16x2560) ![0, 0, 0, 0, 512] S2x4x1x16x512.size inb_S2x4x2x16x2560_S2x4x1x16x512_0_0_0_0_512) f)
    ∗ (∃ f, win c mO (Rect.unit (s := S2x4x2x16x2560) ![0, 0, 1, 0, 1024] S2x4x1x16x512.size inb_S2x4x2x16x2560_S2x4x1x16x512_0_0_1_0_1024) f)
    ∗ (∃ f, win c mO (Rect.unit (s := S2x4x2x16x2560) ![0, 0, 0, 0, 1024] S2x4x1x16x512.size inb_S2x4x2x16x2560_S2x4x1x16x512_0_0_0_0_1024) f)
    ∗ (∃ f, win c mO (Rect.unit (s := S2x4x2x16x2560) ![0, 0, 1, 0, 1536] S2x4x1x16x512.size inb_S2x4x2x16x2560_S2x4x1x16x512_0_0_1_0_1536) f)
    ∗ (∃ f, win c mO (Rect.unit (s := S2x4x2x16x2560) ![0, 0, 0, 0, 1536] S2x4x1x16x512.size inb_S2x4x2x16x2560_S2x4x1x16x512_0_0_0_0_1536) f)
    ∗ (∃ f, win c mO (Rect.unit (s := S2x4x2x16x2560) ![0, 0, 1, 0, 2048] S2x4x1x16x512.size inb_S2x4x2x16x2560_S2x4x1x16x512_0_0_1_0_2048) f)
    ∗ (∃ f, win c mO (Rect.unit (s := S2x4x2x16x2560) ![0, 0, 0, 0, 2048] S2x4x1x16x512.size inb_S2x4x2x16x2560_S2x4x1x16x512_0_0_0_0_2048) f)
    ∗ win c mX (Rect.unit (s := S2x4x2x16x2560) ![0, 0, 0, 0, 0] S2x4x1x16x512.size inb_S2x4x2x16x2560_S2x4x1x16x512_0_0_0_0_0) out.x0
    ∗ win c mX (Rect.unit (s := S2x4x2x16x2560) ![0, 0, 1, 0, 0] S2x4x1x16x512.size inb_S2x4x2x16x2560_S2x4x1x16x512_0_0_1_0_0) out.x1
    ∗ win c mX (Rect.unit (s := S2x4x2x16x2560) ![0, 0, 0, 0, 512] S2x4x1x16x512.size inb_S2x4x2x16x2560_S2x4x1x16x512_0_0_0_0_512) out.x2
    ∗ win c mX (Rect.unit (s := S2x4x2x16x2560) ![0, 0, 1, 0, 512] S2x4x1x16x512.size inb_S2x4x2x16x2560_S2x4x1x16x512_0_0_1_0_512) out.x3
    ∗ win c mX (Rect.unit (s := S2x4x2x16x2560) ![0, 0, 0, 0, 1024] S2x4x1x16x512.size inb_S2x4x2x16x2560_S2x4x1x16x512_0_0_0_0_1024) out.x4
    ∗ win c mX (Rect.unit (s := S2x4x2x16x2560) ![0, 0, 1, 0, 1024] S2x4x1x16x512.size inb_S2x4x2x16x2560_S2x4x1x16x512_0_0_1_0_1024) out.x5
    ∗ win c mX (Rect.unit (s := S2x4x2x16x2560) ![0, 0, 0, 0, 1536] S2x4x1x16x512.size inb_S2x4x2x16x2560_S2x4x1x16x512_0_0_0_0_1536) out.x6
    ∗ win c mX (Rect.unit (s := S2x4x2x16x2560) ![0, 0, 1, 0, 1536] S2x4x1x16x512.size inb_S2x4x2x16x2560_S2x4x1x16x512_0_0_1_0_1536) out.x7
    ∗ win c mX (Rect.unit (s := S2x4x2x16x2560) ![0, 0, 0, 0, 2048] S2x4x1x16x512.size inb_S2x4x2x16x2560_S2x4x1x16x512_0_0_0_0_2048) out.x8
    ∗ win c mX (Rect.unit (s := S2x4x2x16x2560) ![0, 0, 1, 0, 2048] S2x4x1x16x512.size inb_S2x4x2x16x2560_S2x4x1x16x512_0_0_1_0_2048) out.x9
    ∗ cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12
    ∗ cell c 13 ∗ cell c 14 ∗ cell c 15 ∗ cell c 16 ∗ cell c 17 ∗ cell c 18 ∗ cell c 19 ∗ cell c 20 ∗ cell c 21 ∗ cell c 22 ∗ cell c 23 ∗ cell c 24
    ∗ cell c 25 ∗ cell c 26 ∗ cell c 27 ∗ cell c 28 ∗ cell c 29 ∗ cell c 30 ∗ cell c 31 ∗ cell c 32 ∗ cell c 33 ∗ cell c 34 ∗ cell c 35 ∗ cell c 36
    ∗ cell c 37 ∗ cell c 38 ∗ cell c 39 ∗ cell c 40 ∗ cell c 41 ∗ cell c 42 ∗ cell c 43 ∗ cell c 44 ∗ cell c 45 ∗ cell c 46 ∗ cell c 47 ∗ cell c 48
    ∗ cell c 49 ∗ cell c 50 ∗ cell c 51 ∗ cell c 52 ∗ cell c 53 ∗ cell c 54 ∗ cell c 55 ∗ cell c 56 ∗ cell c 57 ∗ cell c 58)

set_option maxHeartbeats 0 in
set_option sl_exec.resultNames true in
/-- The body runs from `Start` to `End`, at the results that the run names. -/
def kernelRun (c : Dev nD) (dy : BufOf (F := F) c mDy) (ws : BufOf (F := F) c mWs) (co : BufOf (F := F) c mCo) (sc : BufOf (F := F) c mSc) (s0 : BufOf (F := F) c mS0) (s1 : BufOf (F := F) c mS1) (s3 : BufOf (F := F) c mS3) (s5 : BufOf (F := F) c mS5) (s6 : BufOf (F := F) c mS6) (w : BufOf (F := F) c mWh) (s2 : BufOf (F := F) c mW) (s4 : BufOf (F := F) c mO) (dx : BufOf (F := F) c mX) :
    { out : Out (F := F) c // ∀ (W : Waits sig Unit) (K : PUnit → sProp 𝕄),
      iprop(Start c dy ws co sc s0 s1 s3 s5 s6 w s2 s4 dx ∗ owes (c : Thread nD τ) 0 W
          ∗ (iprop(End c dy ws w out ∗ (∃ W', owes (c : Thread nD τ) 0 W')) -∗ K ⟨⟩))
        ⊢ wp frame (wpE (defs₀ (F := F)) Variants.none c none) Set.univ (body (F := F)) K } := by
  refine ⟨⟨?x0, ?x1, ?x2, ?x3, ?x4, ?x5, ?x6, ?x7, ?x8, ?x9, ?xco, ?xsc⟩, fun W K => ?run⟩
  case run =>
    unfold body; rw [cc0_conv3x3_dgrad_eq_skeleton]; unfold cc0_conv3x3_dgrad_skel Start End
    iintro ⟨⟨HdyH, HwsH, HcoH, HscH, Hdy, Hws, Hl, Hco, Hsc, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25, Hw26, Hw27, Hw28, Hw29, Hw30, Hw31, Hw32, Hw33, Hw34, Hw35, Hw36, Hw37, Hw38, Hw39, Hw40, Hw41, Hw42, Hw43, Hw44, Ho1, Ho0, Ho3, Ho2, Ho5, Ho4, Ho7, Ho6, Ho9, Ho8, Hx0, Hx1, Hx2, Hx3, Hx4, Hx5, Hx6, Hx7, Hx8, Hx9, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58⟩, HW, Hk⟩
    sl_exec_parts
    sl_step
    iapply Hk
    isplitr [HW]
    · isplitl [HdyH]; · iexact HdyH
      isplitl [HwsH]; · iexact HwsH
      isplitl [HcoH]; · iexact HcoH
      isplitl [HscH]; · iexact HscH
      isplitl [Hdy]; · iexists _; iexact Hdy
      isplitl [Hws]; · iexists _; iexact Hws
      isplitl [Hl]; · iexists _; iexact Hl
      isplitl [Hco]; · iexists _; iexact Hco
      isplitl [Hsc]; · iexists _; iexact Hsc
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      isplitl [Ht19]; · iexact Ht19
      isplitl [Ht20]; · iexact Ht20
      isplitl [Ht21]; · iexact Ht21
      isplitl [Ht22]; · iexact Ht22
      isplitl [Ht23]; · iexact Ht23
      isplitl [Ht24]; · iexact Ht24
      isplitl [Ht25]; · iexact Ht25
      isplitl [Ht26]; · iexact Ht26
      isplitl [Ht27]; · iexact Ht27
      isplitl [Ht28]; · iexact Ht28
      isplitl [Ht29]; · iexact Ht29
      isplitl [Ht30]; · iexact Ht30
      isplitl [Ht31]; · iexact Ht31
      isplitl [Ht32]; · iexact Ht32
      isplitl [Ht33]; · iexact Ht33
      isplitl [Ht34]; · iexact Ht34
      isplitl [Ht35]; · iexact Ht35
      isplitl [Ht36]; · iexact Ht36
      isplitl [Ht37]; · iexact Ht37
      isplitl [Ht38]; · iexact Ht38
      isplitl [Ht39]; · iexact Ht39
      isplitl [Ht40]; · iexact Ht40
      isplitl [Ht41]; · iexact Ht41
      isplitl [Ht42]; · iexact Ht42
      isplitl [Ht43]; · iexact Ht43
      isplitl [Ht44]; · iexact Ht44
      isplitl [Hw0]; · iexists _; iexact Hw0
      isplitl [Hw1]; · iexists _; iexact Hw1
      isplitl [Hw2]; · iexists _; iexact Hw2
      isplitl [Hw3]; · iexists _; iexact Hw3
      isplitl [Hw4]; · iexists _; iexact Hw4
      isplitl [Hw5]; · iexists _; iexact Hw5
      isplitl [Hw6]; · iexists _; iexact Hw6
      isplitl [Hw7]; · iexists _; iexact Hw7
      isplitl [Hw8]; · iexists _; iexact Hw8
      isplitl [Hw9]; · iexists _; iexact Hw9
      isplitl [Hw10]; · iexists _; iexact Hw10
      isplitl [Hw11]; · iexists _; iexact Hw11
      isplitl [Hw12]; · iexists _; iexact Hw12
      isplitl [Hw13]; · iexists _; iexact Hw13
      isplitl [Hw14]; · iexists _; iexact Hw14
      isplitl [Hw15]; · iexists _; iexact Hw15
      isplitl [Hw16]; · iexists _; iexact Hw16
      isplitl [Hw17]; · iexists _; iexact Hw17
      isplitl [Hw18]; · iexists _; iexact Hw18
      isplitl [Hw19]; · iexists _; iexact Hw19
      isplitl [Hw20]; · iexists _; iexact Hw20
      isplitl [Hw21]; · iexists _; iexact Hw21
      isplitl [Hw22]; · iexists _; iexact Hw22
      isplitl [Hw23]; · iexists _; iexact Hw23
      isplitl [Hw24]; · iexists _; iexact Hw24
      isplitl [Hw25]; · iexists _; iexact Hw25
      isplitl [Hw26]; · iexists _; iexact Hw26
      isplitl [Hw27]; · iexists _; iexact Hw27
      isplitl [Hw28]; · iexists _; iexact Hw28
      isplitl [Hw29]; · iexists _; iexact Hw29
      isplitl [Hw30]; · iexists _; iexact Hw30
      isplitl [Hw31]; · iexists _; iexact Hw31
      isplitl [Hw32]; · iexists _; iexact Hw32
      isplitl [Hw33]; · iexists _; iexact Hw33
      isplitl [Hw34]; · iexists _; iexact Hw34
      isplitl [Hw35]; · iexists _; iexact Hw35
      isplitl [Hw36]; · iexists _; iexact Hw36
      isplitl [Hw37]; · iexists _; iexact Hw37
      isplitl [Hw38]; · iexists _; iexact Hw38
      isplitl [Hw39]; · iexists _; iexact Hw39
      isplitl [Hw40]; · iexists _; iexact Hw40
      isplitl [Hw41]; · iexists _; iexact Hw41
      isplitl [Hw42]; · iexists _; iexact Hw42
      isplitl [Hw43]; · iexists _; iexact Hw43
      isplitl [Hw44]; · iexists _; iexact Hw44
      isplitl [Ho1]; · iexists _; iexact Ho1
      isplitl [Ho0]; · iexists _; iexact Ho0
      isplitl [Ho3]; · iexists _; iexact Ho3
      isplitl [Ho2]; · iexists _; iexact Ho2
      isplitl [Ho5]; · iexists _; iexact Ho5
      isplitl [Ho4]; · iexists _; iexact Ho4
      isplitl [Ho7]; · iexists _; iexact Ho7
      isplitl [Ho6]; · iexists _; iexact Ho6
      isplitl [Ho9]; · iexists _; iexact Ho9
      isplitl [Ho8]; · iexists _; iexact Ho8
      isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      isplitl [Hq40]; · iexact Hq40
      isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      isplitl [Hq49]; · iexact Hq49
      isplitl [Hq50]; · iexact Hq50
      isplitl [Hq51]; · iexact Hq51
      isplitl [Hq52]; · iexact Hq52
      isplitl [Hq53]; · iexact Hq53
      isplitl [Hq54]; · iexact Hq54
      isplitl [Hq55]; · iexact Hq55
      isplitl [Hq56]; · iexact Hq56
      isplitl [Hq57]; · iexact Hq57
      iexact Hq58
    · iexists _; iexact HW

end Cert.Kernel.Hand
end
-- ==== Proof.KernelBody.lean ====
/-
  The body run between whole buffers: the split of the kernel's buffers into the pieces that its transfers move and their
  join back, and the run of the body from whole buffers to whole buffers (`body_run`).
-/
module

public import proofs.«01_k».proof.Proof.KernelRun
public import Idealize.ShloMosaic.Lib.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## The windows -/

/-- Landing window `k` of the weights' scratch: tap `k % 9`, output channels from `512 (k / 9)`. -/
def wRect (k : Fin 45) : Rect S9x1280x2560 :=
  Rect.unit ![k.val % 9, 0, 512 * (k.val / 9)] S1x1280x512.size (by revert k; decide)

/-- Window `k` of the input gradient: row parity `k % 2`, output channels from `512 (k / 2)`. -/
def xRect (k : Fin 10) : Rect S2x4x2x16x2560 :=
  Rect.unit ![0, 0, k.val % 2, 0, 512 * (k.val / 2)] S2x4x1x16x512.size (by revert k; decide)

theorem mem_wRect {k : Fin 45} {i : S9x1280x2560.Idx} :
    i ∈ (wRect k).set ↔ (i 0).val = k.val % 9 ∧ 512 * (k.val / 9) ≤ (i 2).val ∧ (i 2).val < 512 * (k.val / 9) + 512 := by
  unfold wRect
  rw [Rect.mem_set_unit, Fin.forall_fin_succ, Fin.forall_fin_succ, Fin.forall_fin_succ]
  have h1 : (i 1).val < 1280 := (i 1).isLt
  have e : (∀ a : Fin 0, ![k.val % 9, 0, 512 * (k.val / 9)] a.succ.succ.succ ≤ (i a.succ.succ.succ).val ∧ (i a.succ.succ.succ).val < ![k.val % 9, 0, 512 * (k.val / 9)] a.succ.succ.succ + S1x1280x512.size a.succ.succ.succ) ↔ True := iff_true_intro fun a => a.elim0
  show ((k.val % 9 ≤ (i 0).val ∧ (i 0).val < k.val % 9 + 1) ∧ (0 ≤ (i 1).val ∧ (i 1).val < 0 + 1280)
    ∧ (512 * (k.val / 9) ≤ (i 2).val ∧ (i 2).val < 512 * (k.val / 9) + 512) ∧ _) ↔ _
  constructor
  · rintro ⟨a, b, d, -⟩; omega
  · rintro ⟨a, b⟩; exact ⟨by omega, by omega, by omega, fun a => a.elim0⟩

theorem mem_xRect {k : Fin 10} {i : S2x4x2x16x2560.Idx} :
    i ∈ (xRect k).set ↔ (i 2).val = k.val % 2 ∧ 512 * (k.val / 2) ≤ (i 4).val ∧ (i 4).val < 512 * (k.val / 2) + 512 := by
  unfold xRect
  rw [Rect.mem_set_unit, Fin.forall_fin_succ, Fin.forall_fin_succ, Fin.forall_fin_succ, Fin.forall_fin_succ, Fin.forall_fin_succ]
  have h0 : (i 0).val < 2 := (i 0).isLt
  have h1 : (i 1).val < 4 := (i 1).isLt
  have h3 : (i 3).val < 16 := (i 3).isLt
  show ((0 ≤ (i 0).val ∧ (i 0).val < 0 + 2) ∧ (0 ≤ (i 1).val ∧ (i 1).val < 0 + 4)
    ∧ (k.val % 2 ≤ (i 2).val ∧ (i 2).val < k.val % 2 + 1) ∧ (0 ≤ (i 3).val ∧ (i 3).val < 0 + 16)
    ∧ (512 * (k.val / 2) ≤ (i 4).val ∧ (i 4).val < 512 * (k.val / 2) + 512) ∧ _) ↔ _
  constructor
  · rintro ⟨a, b, d, e, f, -⟩; omega
  · rintro ⟨a, b⟩; exact ⟨by omega, by omega, by omega, by omega, by omega, fun a => a.elim0⟩

theorem wRect_disjoint (k k' : Fin 45) (h : k ≠ k') : Disjoint (mW.view.setOn (wRect k).set) (mW.view.setOn (wRect k').set) := by
  refine View.disjoint_setOn _ (Finset.disjoint_left.mpr fun i hi hi' => h (Fin.ext ?_))
  have a := mem_wRect.mp hi
  have b := mem_wRect.mp hi'
  omega

theorem xRect_disjoint {sp : Space} (M : Memref sig .tc sp S2x4x2x16x2560 .bf16) (k k' : Fin 10) (h : k ≠ k') :
    Disjoint (M.view.setOn (xRect k).set) (M.view.setOn (xRect k').set) := by
  refine View.disjoint_setOn _ (Finset.disjoint_left.mpr fun i hi hi' => h (Fin.ext ?_))
  have a := mem_xRect.mp hi
  have b := mem_xRect.mp hi'
  omega

theorem wRect_cover : Finset.univ.biUnion (fun k : Fin 45 => mW.view.setOn (wRect k).set) = Finset.univ := by
  refine Finset.eq_univ_iff_forall.mpr fun i => Finset.mem_biUnion.mpr ?_
  have h0 : ((i : S9x1280x2560.Idx) 0).val < 9 := (i 0).isLt
  have h2 : ((i : S9x1280x2560.Idx) 2).val < 2560 := (i 2).isLt
  refine ⟨⟨9 * (((i : S9x1280x2560.Idx) 2).val / 512) + ((i : S9x1280x2560.Idx) 0).val, by omega⟩, Finset.mem_univ _, ?_⟩
  exact (View.mem_setOn _).mpr (mem_wRect.mpr (by dsimp only; omega))

theorem xRect_mem (i : S2x4x2x16x2560.Idx) : ∃ k : Fin 10, i ∈ (xRect k).set := by
  have h2 : (i 2).val < 2 := (i 2).isLt
  have h4 : (i 4).val < 2560 := (i 4).isLt
  exact ⟨⟨2 * ((i 4).val / 512) + (i 2).val, by omega⟩, mem_xRect.mpr (by dsimp only; omega)⟩

theorem oRect_cover : Finset.univ.biUnion (fun k : Fin 10 => mO.view.setOn (xRect k).set) = Finset.univ := by
  refine Finset.eq_univ_iff_forall.mpr fun i => Finset.mem_biUnion.mpr ?_
  obtain ⟨k, hk⟩ := xRect_mem i
  exact ⟨k, Finset.mem_univ _, (View.mem_setOn _).mpr hk⟩

theorem xRect_cover : Finset.univ.biUnion (fun k : Fin 10 => mX.view.setOn (xRect k).set) = Finset.univ := by
  refine Finset.eq_univ_iff_forall.mpr fun i => Finset.mem_biUnion.mpr ?_
  obtain ⟨k, hk⟩ := xRect_mem i
  exact ⟨k, Finset.mem_univ _, (View.mem_setOn _).mpr hk⟩

/-! ## Families, listed -/

/-- A family over 10 indices, listed. -/
theorem chain10 (Φ : Fin 10 → sProp 𝕄) : (bigSep Finset.univ Φ : sProp 𝕄) =
    iprop(Φ 0 ∗ Φ 1 ∗ Φ 2 ∗ Φ 3 ∗ Φ 4 ∗ Φ 5 ∗ Φ 6 ∗ Φ 7 ∗ Φ 8 ∗ Φ 9) := by
  rw [BI.bigSep_eq_bigSepL_of_eq [0, 1, 2, 3, 4, 5, 6, 7, 8, 9] (by decide) (by decide)]; rfl

/-- A family over 45 indices, listed. -/
theorem chain45 (Φ : Fin 45 → sProp 𝕄) : (bigSep Finset.univ Φ : sProp 𝕄) =
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20
      ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39
      ∗ Φ 40 ∗ Φ 41 ∗ Φ 42 ∗ Φ 43 ∗ Φ 44) := by
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44] (by decide) (by decide)]; rfl

/-- A family over 47 indices, listed. -/
theorem chain47 (Φ : Fin 47 → sProp 𝕄) : (bigSep Finset.univ Φ : sProp 𝕄) =
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20
      ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39
      ∗ Φ 40 ∗ Φ 41 ∗ Φ 42 ∗ Φ 43 ∗ Φ 44 ∗ Φ 45 ∗ Φ 46) := by
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46] (by decide) (by decide)]; rfl

/-- A family over 59 indices, listed. -/
theorem chain59 (Φ : Fin 59 → sProp 𝕄) : (bigSep Finset.univ Φ : sProp 𝕄) =
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20
      ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39
      ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58) := by
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58] (by decide) (by decide)]; rfl

/-! ## The run from whole buffers to whole buffers -/

/-- What a run leaves in window `k` of the input gradient. -/
def Out.x {c : Dev nD} (out : Out (F := F) c) : Fin 10 → BufOf (F := F) c mX :=
  ![out.x0, out.x1, out.x2, out.x3, out.x4, out.x5, out.x6, out.x7, out.x8, out.x9]

/-- The small buffers, the scratch buffers and the results, whole; the weights whole; the counters at zero. -/
def Whole (c : Dev nD) (dy : BufOf (F := F) c mDy) (ws : BufOf (F := F) c mWs) (co : BufOf (F := F) c mCo) (sc : BufOf (F := F) c mSc) (s0 : BufOf (F := F) c mS0) (s1 : BufOf (F := F) c mS1) (s3 : BufOf (F := F) c mS3) (s5 : BufOf (F := F) c mS5) (s6 : BufOf (F := F) c mS6) (w : BufOf (F := F) c mWh) (s2 : BufOf (F := F) c mW) (s4 : BufOf (F := F) c mO) (dx : BufOf (F := F) c mX) : sProp 𝕄 :=
  iprop(pt c mDy dy ∗ pt c mWs ws ∗ pt c mCo co ∗ pt c mSc sc ∗ pt c mS0 s0 ∗ pt c mS1 s1 ∗ pt c mS3 s3 ∗ pt c mS5 s5 ∗ pt c mS6 s6 ∗ pt c mWh w ∗ pt c mW s2 ∗ pt c mO s4 ∗ pt c mX dx
    ∗ bigSep Finset.univ fun k : Fin 59 => cell c k)

/-- The read tokens of the weights that no transfer takes, and what is left beside the tokens. -/
def Rest (c : Dev nD) (w : BufOf (F := F) c mWh) : sProp 𝕄 :=
  iprop((mWh.view.loc (c : Thread nD τ) ↦{Transfers.shareDrop fullShare 47} w) ∗ tok c mWh 0 w ∗ tok c mWh 1 w)

/-- The weights' scratch is its forty-five landing windows. -/
theorem wins_w (c : Dev nD) (f : BufOf (F := F) c mW) :
    (pt c mW f : sProp 𝕄) = bigSep Finset.univ fun k : Fin 45 => win c mW (wRect k) f :=
  Ring.pointsTo_blocks (ℓ := mW.view.loc (c : Thread nD τ)) (q := fullShare) (fun k : Fin 45 => mW.view.setOn (wRect k).set)
    wRect_disjoint wRect_cover f

/-- The input gradient's scratch is its ten windows. -/
theorem wins_o (c : Dev nD) (f : BufOf (F := F) c mO) :
    (pt c mO f : sProp 𝕄) = bigSep Finset.univ fun k : Fin 10 => win c mO (xRect k) f :=
  Ring.pointsTo_blocks (ℓ := mO.view.loc (c : Thread nD τ)) (q := fullShare) (fun k : Fin 10 => mO.view.setOn (xRect k).set)
    (xRect_disjoint mO) oRect_cover f

/-- The input gradient is its ten windows. -/
theorem wins_x (c : Dev nD) (f : BufOf (F := F) c mX) :
    (pt c mX f : sProp 𝕄) = bigSep Finset.univ fun k : Fin 10 => win c mX (xRect k) f :=
  Ring.pointsTo_blocks (ℓ := mX.view.loc (c : Thread nD τ)) (q := fullShare) (fun k : Fin 10 => mX.view.setOn (xRect k).set)
    (xRect_disjoint mX) xRect_cover f

/-- Whole buffers split into what the body starts from. -/
theorem start_of_whole (c : Dev nD) (dy : BufOf (F := F) c mDy) (ws : BufOf (F := F) c mWs) (co : BufOf (F := F) c mCo) (sc : BufOf (F := F) c mSc) (s0 : BufOf (F := F) c mS0) (s1 : BufOf (F := F) c mS1) (s3 : BufOf (F := F) c mS3) (s5 : BufOf (F := F) c mS5) (s6 : BufOf (F := F) c mS6) (w : BufOf (F := F) c mWh) (s2 : BufOf (F := F) c mW) (s4 : BufOf (F := F) c mO) (dx : BufOf (F := F) c mX) :
    Whole c dy ws co sc s0 s1 s3 s5 s6 w s2 s4 dx ⊢ iprop(Start c dy ws co sc s0 s1 s3 s5 s6 w s2 s4 dx ∗ Rest c w) := by
  unfold Whole
  rw [wins_w, wins_o, wins_x,
    chain45, chain10, chain10, chain59]
  iintro ⟨HdyH, HwsH, HcoH, HscH, Hdy, Hws, Hl, Hco, Hsc, Hwh, ⟨Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25, Hw26, Hw27, Hw28, Hw29, Hw30, Hw31, Hw32, Hw33, Hw34, Hw35, Hw36, Hw37, Hw38, Hw39, Hw40, Hw41, Hw42, Hw43, Hw44⟩, ⟨Ho0, Ho1, Ho2, Ho3, Ho4, Ho5, Ho6, Ho7, Ho8, Ho9⟩, ⟨Hx0, Hx1, Hx2, Hx3, Hx4, Hx5, Hx6, Hx7, Hx8, Hx9⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58⟩⟩
  ihave Hwt := (Transfers.pointsTo_toks_split fullShare 47) $$ Hwh
  icases Hwt with ⟨Hd, Htt⟩
  ihave Hts := (Entails.of_eq (chain47 _)) $$ Htt
  icases Hts with ⟨Hta, Htb, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44⟩
  unfold Start Rest
  isplitr [Hd Hta Htb]
  · isplitl [HdyH]; · iexact HdyH
    isplitl [HwsH]; · iexact HwsH
    isplitl [HcoH]; · iexact HcoH
    isplitl [HscH]; · iexact HscH
    isplitl [Hdy]; · iexact Hdy
    isplitl [Hws]; · iexact Hws
    isplitl [Hl]; · iexact Hl
    isplitl [Hco]; · iexact Hco
    isplitl [Hsc]; · iexact Hsc
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    isplitl [Ht31]; · iexact Ht31
    isplitl [Ht32]; · iexact Ht32
    isplitl [Ht33]; · iexact Ht33
    isplitl [Ht34]; · iexact Ht34
    isplitl [Ht35]; · iexact Ht35
    isplitl [Ht36]; · iexact Ht36
    isplitl [Ht37]; · iexact Ht37
    isplitl [Ht38]; · iexact Ht38
    isplitl [Ht39]; · iexact Ht39
    isplitl [Ht40]; · iexact Ht40
    isplitl [Ht41]; · iexact Ht41
    isplitl [Ht42]; · iexact Ht42
    isplitl [Ht43]; · iexact Ht43
    isplitl [Ht44]; · iexact Ht44
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    isplitl [Hw25]; · iexact Hw25
    isplitl [Hw26]; · iexact Hw26
    isplitl [Hw27]; · iexact Hw27
    isplitl [Hw28]; · iexact Hw28
    isplitl [Hw29]; · iexact Hw29
    isplitl [Hw30]; · iexact Hw30
    isplitl [Hw31]; · iexact Hw31
    isplitl [Hw32]; · iexact Hw32
    isplitl [Hw33]; · iexact Hw33
    isplitl [Hw34]; · iexact Hw34
    isplitl [Hw35]; · iexact Hw35
    isplitl [Hw36]; · iexact Hw36
    isplitl [Hw37]; · iexact Hw37
    isplitl [Hw38]; · iexact Hw38
    isplitl [Hw39]; · iexact Hw39
    isplitl [Hw40]; · iexact Hw40
    isplitl [Hw41]; · iexact Hw41
    isplitl [Hw42]; · iexact Hw42
    isplitl [Hw43]; · iexact Hw43
    isplitl [Hw44]; · iexact Hw44
    isplitl [Ho1]; · iexact Ho1
    isplitl [Ho0]; · iexact Ho0
    isplitl [Ho3]; · iexact Ho3
    isplitl [Ho2]; · iexact Ho2
    isplitl [Ho5]; · iexact Ho5
    isplitl [Ho4]; · iexact Ho4
    isplitl [Ho7]; · iexact Ho7
    isplitl [Ho6]; · iexact Ho6
    isplitl [Ho9]; · iexact Ho9
    isplitl [Ho8]; · iexact Ho8
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    iexact Hq58
  · isplitl [Hd]; · iexact Hd
    isplitl [Hta]; · iexact Hta
    iexact Htb

/-- What the body ends with, joined into whole buffers: the input gradient at contents that agree, window by window, with
    what the run leaves. -/
theorem whole_of_end (c : Dev nD) (dy : BufOf (F := F) c mDy) (ws : BufOf (F := F) c mWs) (w : BufOf (F := F) c mWh) (out : Out (F := F) c)
    (s2 : BufOf (F := F) c mW) (s4 : BufOf (F := F) c mO) :
    iprop(End c dy ws w out ∗ Rest c w)
      ⊢ iprop(∃ s0 s1 s3 s5 s6 s2 s4 dx, ⌜∀ k : Fin 10, ∀ i ∈ mX.view.setOn (xRect k).set, dx i = out.x k i⌝
          ∗ Whole c dy ws out.co out.sc s0 s1 s3 s5 s6 w s2 s4 dx) := by
  unfold End Rest
  iintro ⟨⟨HdyH, HwsH, HcoH, HscH, ⟨%fHdy, Hdy⟩, ⟨%fHws, Hws⟩, ⟨%fHl, Hl⟩, ⟨%fHco, Hco⟩, ⟨%fHsc, Hsc⟩, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25, Hw26, Hw27, Hw28, Hw29, Hw30, Hw31, Hw32, Hw33, Hw34, Hw35, Hw36, Hw37, Hw38, Hw39, Hw40, Hw41, Hw42, Hw43, Hw44, Ho1, Ho0, Ho3, Ho2, Ho5, Ho4, Ho7, Ho6, Ho9, Ho8, Hx0, Hx1, Hx2, Hx3, Hx4, Hx5, Hx6, Hx7, Hx8, Hx9, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58⟩, Hd, Hta, Htb⟩
  ihave Hwh := (Transfers.pointsTo_toks_join (ℓ := mWh.view.loc (c : Thread nD τ)) (S := Finset.univ) (f := w) fullShare 47) $$ [Hd Hta Htb Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Ht40 Ht41 Ht42 Ht43 Ht44]
  · isplitl [Hd]; · iexact Hd
    iapply (Entails.of_eq (chain47 (fun i : Fin 47 => mWh.view.loc (c : Thread nD τ) ↦{Transfers.shareTok fullShare 47 i} w)).symm)
    isplitl [Hta]; · iexact Hta
    isplitl [Htb]; · iexact Htb
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    isplitl [Ht31]; · iexact Ht31
    isplitl [Ht32]; · iexact Ht32
    isplitl [Ht33]; · iexact Ht33
    isplitl [Ht34]; · iexact Ht34
    isplitl [Ht35]; · iexact Ht35
    isplitl [Ht36]; · iexact Ht36
    isplitl [Ht37]; · iexact Ht37
    isplitl [Ht38]; · iexact Ht38
    isplitl [Ht39]; · iexact Ht39
    isplitl [Ht40]; · iexact Ht40
    isplitl [Ht41]; · iexact Ht41
    isplitl [Ht42]; · iexact Ht42
    isplitl [Ht43]; · iexact Ht43
    iexact Ht44
  ihave HW := (Ring.pointsTo_blocks_join_exists (fun k : Fin 45 => mW.view.setOn (wRect k).set) wRect_disjoint wRect_cover s2) $$ [Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25 Hw26 Hw27 Hw28 Hw29 Hw30 Hw31 Hw32 Hw33 Hw34 Hw35 Hw36 Hw37 Hw38 Hw39 Hw40 Hw41 Hw42 Hw43 Hw44]
  · iapply (Entails.of_eq (chain45 (fun k : Fin 45 => iprop(∃ f, win c mW (wRect k) f))).symm)
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    isplitl [Hw25]; · iexact Hw25
    isplitl [Hw26]; · iexact Hw26
    isplitl [Hw27]; · iexact Hw27
    isplitl [Hw28]; · iexact Hw28
    isplitl [Hw29]; · iexact Hw29
    isplitl [Hw30]; · iexact Hw30
    isplitl [Hw31]; · iexact Hw31
    isplitl [Hw32]; · iexact Hw32
    isplitl [Hw33]; · iexact Hw33
    isplitl [Hw34]; · iexact Hw34
    isplitl [Hw35]; · iexact Hw35
    isplitl [Hw36]; · iexact Hw36
    isplitl [Hw37]; · iexact Hw37
    isplitl [Hw38]; · iexact Hw38
    isplitl [Hw39]; · iexact Hw39
    isplitl [Hw40]; · iexact Hw40
    isplitl [Hw41]; · iexact Hw41
    isplitl [Hw42]; · iexact Hw42
    isplitl [Hw43]; · iexact Hw43
    iexact Hw44
  ihave HO := (Ring.pointsTo_blocks_join_exists (fun k : Fin 10 => mO.view.setOn (xRect k).set) (xRect_disjoint mO) oRect_cover s4) $$ [Ho0 Ho1 Ho2 Ho3 Ho4 Ho5 Ho6 Ho7 Ho8 Ho9]
  · iapply (Entails.of_eq (chain10 (fun k : Fin 10 => iprop(∃ f, win c mO (xRect k) f))).symm)
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    iexact Ho9
  ihave HX := (pointsTo_biUnion_join (q := fullShare) Finset.univ (fun k : Fin 10 => mX.view.setOn (xRect k).set) out.x out.x0
      (fun k _ k' _ h => xRect_disjoint mX k k' h)) $$ [Hx0 Hx1 Hx2 Hx3 Hx4 Hx5 Hx6 Hx7 Hx8 Hx9]
  · iapply (Entails.of_eq (chain10 (fun k : Fin 10 => win c mX (xRect k) (out.x k))).symm)
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    iexact Hx9
  rw [xRect_cover]
  icases HW with ⟨%g2, HW⟩
  icases HO with ⟨%g4, HO⟩
  icases HX with ⟨%gx, %hgx, HX⟩
  iexists fHdy, fHws, fHl, fHco, fHsc, g2, g4, gx
  isplitr
  · ipureintro; exact fun k i hi => hgx k (Finset.mem_univ _) i hi
  unfold Whole
  isplitl [HdyH]; · iexact HdyH
  isplitl [HwsH]; · iexact HwsH
  isplitl [HcoH]; · iexact HcoH
  isplitl [HscH]; · iexact HscH
  isplitl [Hdy]; · iexact Hdy
  isplitl [Hws]; · iexact Hws
  isplitl [Hl]; · iexact Hl
  isplitl [Hco]; · iexact Hco
  isplitl [Hsc]; · iexact Hsc
  isplitl [Hwh]; · iexact Hwh
  isplitl [HW]; · iexact HW
  isplitl [HO]; · iexact HO
  isplitl [HX]; · iexact HX
  iapply (Entails.of_eq (chain59 (fun k : Fin 59 => cell c k)).symm)
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  isplitl [Hq45]; · iexact Hq45
  isplitl [Hq46]; · iexact Hq46
  isplitl [Hq47]; · iexact Hq47
  isplitl [Hq48]; · iexact Hq48
  isplitl [Hq49]; · iexact Hq49
  isplitl [Hq50]; · iexact Hq50
  isplitl [Hq51]; · iexact Hq51
  isplitl [Hq52]; · iexact Hq52
  isplitl [Hq53]; · iexact Hq53
  isplitl [Hq54]; · iexact Hq54
  isplitl [Hq55]; · iexact Hq55
  isplitl [Hq56]; · iexact Hq56
  isplitl [Hq57]; · iexact Hq57
  iexact Hq58

/-- The body's run between whole buffers: it ends with the operands unchanged, the counters at zero, and the results at
    contents for which `P` holds, for every `P` that holds of what the run leaves. -/
theorem body_run (c : Dev nD) (dy : BufOf (F := F) c mDy) (ws : BufOf (F := F) c mWs) (co : BufOf (F := F) c mCo) (sc : BufOf (F := F) c mSc) (s0 : BufOf (F := F) c mS0) (s1 : BufOf (F := F) c mS1) (s3 : BufOf (F := F) c mS3) (s5 : BufOf (F := F) c mS5) (s6 : BufOf (F := F) c mS6) (w : BufOf (F := F) c mWh) (s2 : BufOf (F := F) c mW) (s4 : BufOf (F := F) c mO) (dx : BufOf (F := F) c mX)
    (P : BufOf (F := F) c mX → BufOf (F := F) c mCo → BufOf (F := F) c mSc → Prop)
    (hP : ∀ dx', (∀ k : Fin 10, ∀ i ∈ mX.view.setOn (xRect k).set, dx' i = (kernelRun c dy ws co sc s0 s1 s3 s5 s6 w s2 s4 dx).1.x k i) →
      P dx' (kernelRun c dy ws co sc s0 s1 s3 s5 s6 w s2 s4 dx).1.co (kernelRun c dy ws co sc s0 s1 s3 s5 s6 w s2 s4 dx).1.sc)
    (W : Waits sig Unit) (K : PUnit → sProp 𝕄) :
    iprop(Whole c dy ws co sc s0 s1 s3 s5 s6 w s2 s4 dx ∗ owes (c : Thread nD τ) 0 W
        ∗ (iprop((∃ co sc s0 s1 s3 s5 s6 s2 s4 dx, ⌜P dx co sc⌝ ∗ Whole c dy ws co sc s0 s1 s3 s5 s6 w s2 s4 dx)
            ∗ (∃ W', owes (c : Thread nD τ) 0 W')) -∗ K ⟨⟩))
      ⊢ wp frame (wpE (defs₀ (F := F)) Variants.none c none) Set.univ (body (F := F)) K := by
  iintro ⟨H, HW, Hk⟩
  ihave H' := (start_of_whole c dy ws co sc s0 s1 s3 s5 s6 w s2 s4 dx) $$ H
  icases H' with ⟨HS, HR⟩
  iapply ((kernelRun c dy ws co sc s0 s1 s3 s5 s6 w s2 s4 dx).2 W K)
  isplitl [HS]; · iexact HS
  isplitl [HW]; · iexact HW
  iintro ⟨HE, HW⟩
  iapply Hk
  isplitr [HW]
  · ihave H2 := (whole_of_end c dy ws w (kernelRun c dy ws co sc s0 s1 s3 s5 s6 w s2 s4 dx).1 s2 s4) $$ [HE HR]
    · isplitl [HE]; · iexact HE
      iexact HR
    icases H2 with ⟨%t0, %t1, %t3, %t5, %t6, %t2, %t4, %tx, %htx, H2⟩
    iexists _, _, t0, t1, t3, t5, t6, t2, t4, tx
    isplitr
    · ipureintro; exact hP tx htx
    · iexact H2
  · iexact HW

end Cert.Kernel.Hand

end
-- ==== Proof.KernelFrame.lean ====
/-
  The frame of the kernel's program: it runs to its end without a fault, leaves its three arguments unchanged and every
  semaphore counter at zero.
-/
module

public import proofs.«01_k».proof.Proof.KernelBody
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The launch facts -/

/-- The kernel's own transfer counters, all fifty-nine. -/
abbrev osem0 : Fin 59 → SemLoc sig := fun j => SemLoc.dma j
theorem ownSemFacts0 : Pipeline.OwnSemFacts cfg0.spec osem0 := by decide

/-- The HBM operands that the body's transfers read: the incoming gradient, the weights by tap, the channel scales. -/
def H0 : Finset (Ref sig .tc) := {main_arg0, main_v1, main_v2}
theorem H0_sub : H0 ⊆ Pipeline.restRefs sig cfg0.spec := by decide
/-- The HBM results that the body's transfers write: the input gradient, the codes, the scales. -/
def R0 : Finset (Ref sig .tc) := {main_v3_0, main_v3_1, main_v3_2}
theorem R0_sub : R0 ⊆ Pipeline.restRefs sig cfg0.spec \ H0 := by decide

theorem ownSems00_eq (c : Dev nD) :
    (Pipeline.ownSems0 (Ix := Unit) (Name := ℕ) (U := Pipeline.UD sig nD τ) (Lvl := ℕ) (Val := Elt F) (τ := τ) osem0 c : sProp 𝕄)
      = bigSep Finset.univ fun k : Fin 59 => cell c k := rfl

theorem hbmPts0_eq (c : Dev nD) (G : (b : Ref sig .tc) → Buf (Elt F) ((c : Thread nD τ).loc b)) :
    (bigSep H0 (fun b => ((c : Thread nD τ).loc b) ↦{fullShare} G b) : sProp 𝕄)
      = iprop(pt c mDy (G main_arg0) ∗ pt c mWh (G main_v1) ∗ pt c mWs (G main_v2)) := by
  rw [BI.bigSep_eq_bigSepL_of_eq [main_arg0, main_v1, main_v2] (by decide) (by decide)]; rfl

/-- No window is staged: the stars over the windows are empty. -/
theorem bigSep_W0 (f : Fin cfg0.W → sProp 𝕄) : bigSep Finset.univ f = iprop(emp) :=
  (congrArg (fun s => bigSep s f) (show (Finset.univ : Finset (Fin cfg0.W)) = ∅ from rfl)).trans bigSep_empty

theorem defs₀_row (t : Fin cfg0.N) :
    defs₀ (F := F) .tc cfg0.body (cfg0.bodyArgs t (cfg0.slots t)) = body := by
  unfold defs₀; rw [Defs.onTc_tc]

theorem sfx_writes : ∀ ops ∈ ([hostOps1] : List (List (HloOp τ sig (Elt F)))), ∀ op ∈ ops, ∀ b : Ref sig .tc,
    Proc.devRef .tc b ∈ op.writes → b ∈ ({main_v4} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb ⊢
  by_contra h; exact StableHlo.devRef_ne_of_ne h hb

set_option maxHeartbeats 800000 in
/-- The program up to its region, continued by its last line. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem ownedPts0_eq (c : Dev nD) :
    (Pipeline.owned R0 c : sProp 𝕄) = iprop((∃ f, pt c mX f) ∗ (∃ f, pt c mCo f) ∗ (∃ f, pt c mSc f)) := by
  unfold Pipeline.owned; rw [BI.bigSep_eq_bigSepL_of_eq [main_v3_0, main_v3_1, main_v3_2] (by decide) (by decide)]; rfl

/-- The region's invariant, listed. -/
theorem Phi_eq (c : Dev nD) :
    (Pipeline.ΦDR osem0 cfg0.spec H0 R0 (V m) c : sProp 𝕄)
      = iprop(iprop((∃ f, pt c mS0 f) ∗ (∃ f, pt c mS1 f) ∗ (∃ f, pt c mW f) ∗ (∃ f, pt c mS3 f) ∗ (∃ f, pt c mO f) ∗ (∃ f, pt c mS5 f) ∗ (∃ f, pt c mS6 f))
          ∗ (∃ r, prngReg c r) ∗ (bigSep Finset.univ fun k : Fin 59 => cell c k)
          ∗ iprop(pt c mDy (V m c main_arg0) ∗ pt c mWh (V m c main_v1) ∗ pt c mWs (V m c main_v2))
          ∗ iprop((∃ f, pt c mX f) ∗ (∃ f, pt c mCo f) ∗ (∃ f, pt c mSc f))) := by
  rw [Pipeline.ΦDR_eq, scopedRest0_eq, ownSems00_eq, hbmPts0_eq, ownedPts0_eq]

/-! ## The body obligation -/

/-- The proof data of the region: the invariant is the same before and after its one point. -/
def dats (_ : Fin 1) (c : Dev nD) : Dat τ (Elt F) Unit ℕ (Pipeline.UD sig nD τ) ℕ cfg0 c where
  A w := Fin.elim0 w
  after w _ := Fin.elim0 w
  Φ _ := Pipeline.ΦDR osem0 cfg0.spec H0 R0 (V m) c
  q _ := fullShare
  owed _ := 0

theorem sound_body (c : Dev nD) (t : Fin cfg0.N) :
    iprop((dats m 0 c).Φ t.castSucc ∗ (dats m 0 c).owesAt () t.castSucc)
      ⊢ wp frame (wpE (defs₀ (F := F)) Variants.none c none) Set.univ body (fun _ => iprop((dats m 0 c).Φ t.succ ∗ (dats m 0 c).owesAt () t.succ)) := by
  rw [show (dats m 0 c).Φ t.succ = (dats m 0 c).Φ t.castSucc from rfl]
  rw [show (dats m 0 c).Φ t.castSucc = Pipeline.ΦDR osem0 cfg0.spec H0 R0 (V m) c from rfl, Phi_eq]
  unfold Dat.owesAt Pipeline.owesWithin
  rw [show (dats m 0 c).owed t.castSucc = 0 from rfl, show (dats m 0 c).owed t.succ = 0 from rfl]
  iintro ⟨⟨⟨⟨%s0, H0⟩, ⟨%s1, H1⟩, ⟨%s2, H2⟩, ⟨%s3, H3⟩, ⟨%s4, H4⟩, ⟨%s5, H5⟩, ⟨%s6, H6⟩⟩, Hg, Hq, ⟨Hdy, Hwh, Hws⟩, ⟨%dx, Hx⟩, ⟨%co, Hco⟩, ⟨%sc, Hsc⟩⟩, ⟨%W, -, HW⟩⟩
  iapply (body_run c (V m c main_arg0) (V m c main_v2) co sc s0 s1 s3 s5 s6 (V m c main_v1) s2 s4 dx (fun _ _ _ => True) (fun _ _ => trivial) W _)
  isplitr [HW Hg]
  · unfold Whole
    isplitl [Hdy]; · iexact Hdy
    isplitl [Hws]; · iexact Hws
    isplitl [Hco]; · iexact Hco
    isplitl [Hsc]; · iexact Hsc
    isplitl [H0]; · iexact H0
    isplitl [H1]; · iexact H1
    isplitl [H3]; · iexact H3
    isplitl [H5]; · iexact H5
    isplitl [H6]; · iexact H6
    isplitl [Hwh]; · iexact Hwh
    isplitl [H2]; · iexact H2
    isplitl [H4]; · iexact H4
    isplitl [Hx]; · iexact Hx
    iexact Hq
  isplitl [HW]; · iexact HW
  unfold Whole
  iintro ⟨⟨%co', %sc', %t0, %t1, %t3, %t5, %t6, %t2, %t4, %dx', -, Hdy, Hws, Hco, Hsc, H0, H1, H3, H5, H6, Hwh, H2, H4, Hx, Hq⟩, ⟨%W', HW'⟩⟩
  isplitr [HW']
  · isplitl [H0 H1 H2 H3 H4 H5 H6]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
    isplitl [Hg]; · iexact Hg
    isplitl [Hq]; · iexact Hq
    isplitl [Hdy Hwh Hws]
    · isplitl [Hdy]; · iexact Hdy
      isplitl [Hwh]; · iexact Hwh
      iexact Hws
    isplitl [Hx]; · iexists _; iexact Hx
    isplitl [Hco]; · iexists _; iexact Hco
    iexists _; iexact Hsc
  iexists W'; isplitr; · ipureintro; exact fun _ _ => Or.inl trivial
  iexact HW'

theorem body_obligation (c : Dev nD) : BodyObligationLoose (dats (F := F) m 0 c) (defs₀ (F := F)) Variants.none () Set.univ := by
  refine Pipeline.BodyObligation.loose _ (show BodyObligation (dats (F := F) m 0 c) (defs₀ (F := F)) Variants.none () Set.univ from fun t => ?_)
  rw [bigSep_W0, bigSep_W0, defs₀_row]
  exact triple_restated (sound_body m c t) rfl (by iintro ⟨H1, H2, -⟩; isplitl [H1]; · iexact H1
                                                   iexact H2) fun _ => (by iintro ⟨H1, H2⟩; isplitl [H1]; · iexact H1
                                                                           isplitl [H2]; · iexact H2
                                                                           iempintro)

set_option backward.isDefEq.respectTransparency.types false in
/-- The run of the whole program, at its frame post. -/
theorem run_main : θ_run defs (onTc (τ := τ) (main (F := F))) (s₀ m ρ)
    (fun r => Pipeline.FramePostR cfgs (dats m) 0 (R0 ∪ {main_v4}) (V m) r ∧ r.2.sem = fun _ => 0) :=
  Pipeline.θ_run_frame_dmaR_around (Q' := _) cfgs (dats m) (0 : Fin 1) launch0 osem0 defs₀ Variants.none ownSemFacts0 H0 R0 {main_v4} H0_sub R0_sub m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmainD m Variants.none) (hA := fun _ w => Fin.elim0 w)
    (hin := fun _ => .rfl) (hout := fun _ => .rfl)

/-- The frame: the three arguments end unchanged and every semaphore counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
     ((h.1 c).2 main_arg1 (Finset.mem_sdiff.mpr ⟨Pipeline.mem_restRefs_of main_arg1 (by decide) (by decide), by decide⟩)).trans (V_main_arg1 m c),
     ((h.1 c).2 main_arg2 (Finset.mem_sdiff.mpr ⟨Pipeline.mem_restRefs_of main_arg2 (by decide) (by decide), by decide⟩)).trans (V_main_arg2 m c)⟩, h.2⟩) (run_main m ρ)

end Cert.Kernel.Hand

end
-- ==== Proof.KernelIdealRun.lean ====
/-
  The run of the kernel body on one TensorCore, by symbolic execution: from every buffer that the body uses, it runs to
  its end, leaves the operands as they were and every transfer counter at zero, and leaves in the three results the
  contents that the run itself names (`kernelRun`'s first component).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixV
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The incoming gradient, in HBM. -/
abbrev mDy : Memref sig .tc .hbm S2x4x8x1280 .bf16 := Memref.whole main_arg0
/-- The channel scales as one row, in HBM. -/
abbrev mWs : Memref sig .tc .hbm S1x1280 .f32 := Memref.whole main_v2
/-- The codes' result, in HBM. -/
abbrev mCo : Memref sig .tc .hbm S2x4x8x1280 .fp8e5m2 := Memref.whole main_v3_1
/-- The scales' result, in HBM. -/
abbrev mSc : Memref sig .tc .hbm S2 .f32 := Memref.whole main_v3_2
/-- Scratch: the incoming gradient. -/
abbrev mS0 : Memref sig .tc .vmem S2x4x8x1280 .bf16 := Memref.whole cc0_scratch0
/-- Scratch: the channel scales. -/
abbrev mS1 : Memref sig .tc .vmem S1x1280 .f32 := Memref.whole cc0_scratch1
/-- Scratch: the left operands. -/
abbrev mS3 : Memref sig .tc .vmem S2x2x2x32x1280 .bf16 := Memref.whole cc0_scratch3
/-- Scratch: the codes. -/
abbrev mS5 : Memref sig .tc .vmem S2x4x8x1280 .fp8e5m2 := Memref.whole cc0_scratch5
/-- Scratch: the scales. -/
abbrev mS6 : Memref sig .tc .smem S2 .f32 := Memref.whole cc0_scratch6
/-- Scratch: the nine weight matrices. -/
abbrev mW : Memref sig .tc .vmem S9x1280x2560 .fp8e4m3 := Memref.whole cc0_scratch2
/-- Scratch: the input gradient, by row and column parity. -/
abbrev mO : Memref sig .tc .vmem S2x4x2x16x2560 .bf16 := Memref.whole cc0_scratch4
/-- The input gradient, in HBM. -/
abbrev mX : Memref sig .tc .hbm S2x4x2x16x2560 .bf16 := Memref.whole main_v3_0
/-- The nine weight matrices, in HBM. -/
abbrev mWh : Memref sig .tc .hbm S9x1280x2560 .fp8e4m3 := Memref.whole main_v1
/-- The contents of the buffer under `M` on device `c`. -/
abbrev BufOf (c : Dev nD) {sp : Space} {S : Shape} {e : EltTy} (M : Memref sig .tc sp S e) : Type := Buf (Elt F) (M.view.loc (c : Thread nD τ))
/-- `M` held whole at contents `f`. -/
abbrev pt (c : Dev nD) {sp : Space} {S : Shape} {e : EltTy} (M : Memref sig .tc sp S e) (f : BufOf (F := F) c M) : sProp 𝕄 :=
  M.view.loc (c : Thread nD τ) ↦{fullShare} f
/-- Read token `n` of `M`, whole. -/
abbrev tok (c : Dev nD) {sp : Space} {S : Shape} {e : EltTy} (M : Memref sig .tc sp S e) (n : ℕ) (f : BufOf (F := F) c M) : sProp 𝕄 :=
  M.view.loc (c : Thread nD τ) ↦{Transfers.shareTokN fullShare n} f
/-- `M` held by its elements under the rectangle `R`. -/
abbrev win (c : Dev nD) {sp : Space} {S : Shape} {e : EltTy} (M : Memref sig .tc sp S e) (R : Rect S) (f : BufOf (F := F) c M) : sProp 𝕄 :=
  M.view.loc (c : Thread nD τ) ↦[M.view.setOn R.set]{fullShare} f
/-- Transfer counter `n` at zero. -/
abbrev cell (c : Dev nD) (n : DmaSem sig) : sProp 𝕄 := semVal ((c : Thread nD τ), SemLoc.dma n) 0

/-- What a run leaves in the results: the input gradient's ten windows `x0` … `x9` (window `2 g + s` has row parity `s` and the
    `g`-th 512 output channels), the codes and the scales. -/
structure Out (c : Dev nD) where
  x0 : BufOf (F := F) c mX
  x1 : BufOf (F := F) c mX
  x2 : BufOf (F := F) c mX
  x3 : BufOf (F := F) c mX
  x4 : BufOf (F := F) c mX
  x5 : BufOf (F := F) c mX
  x6 : BufOf (F := F) c mX
  x7 : BufOf (F := F) c mX
  x8 : BufOf (F := F) c mX
  x9 : BufOf (F := F) c mX
  co : BufOf (F := F) c mCo
  sc : BufOf (F := F) c mSc

/-- The kernel body on the kernel's own buffers. -/
abbrev body : Prog (TpuEff nD τ sig (Elt F) Λ₀ .tc) PUnit :=
  cc0_conv3x3_dgrad mDy (Memref.isWhole_whole _) mWh (Memref.isWhole_whole _) mWs (Memref.isWhole_whole _) mX (Memref.isWhole_whole _)
    mCo (Memref.isWhole_whole _) mSc (Memref.isWhole_whole _) mS0 (Memref.isWhole_whole _) mS1 (Memref.isWhole_whole _)
    mW (Memref.isWhole_whole _) mS3 (Memref.isWhole_whole _) mO (Memref.isWhole_whole _) mS5 (Memref.isWhole_whole _)
    mS6 (Memref.isWhole_whole _) cc0_scratch7 cc0_scratch8 cc0_scratch9 cc0_scratch10

/-- What the body starts from: the small buffers whole, one read token of the weights per weight transfer, the weights'
    scratch by its forty-five landing windows, the input gradient's scratch and result by their ten windows, every counter
    at zero. -/
def Start (c : Dev nD) (dy : BufOf (F := F) c mDy) (ws : BufOf (F := F) c mWs) (co : BufOf (F := F) c mCo) (sc : BufOf (F := F) c mSc) (s0 : BufOf (F := F) c mS0) (s1 : BufOf (F := F) c mS1) (s3 : BufOf (F := F) c mS3) (s5 : BufOf (F := F) c mS5) (s6 : BufOf (F := F) c mS6) (w : BufOf (F := F) c mWh) (s2 : BufOf (F := F) c mW) (s4 : BufOf (F := F) c mO) (dx : BufOf (F := F) c mX) : sProp 𝕄 :=
  iprop(pt c mDy dy ∗ pt c mWs ws ∗ pt c mCo co ∗ pt c mSc sc ∗ pt c mS0 s0 ∗ pt c mS1 s1 ∗ pt c mS3 s3 ∗ pt c mS5 s5 ∗ pt c mS6 s6 ∗ tok c mWh 2 w
    ∗ tok c mWh 3 w ∗ tok c mWh 4 w ∗ tok c mWh 5 w ∗ tok c mWh 6 w ∗ tok c mWh 7 w ∗ tok c mWh 8 w ∗ tok c mWh 9 w ∗ tok c mWh 10 w ∗ tok c mWh 11 w
    ∗ tok c mWh 12 w ∗ tok c mWh 13 w ∗ tok c mWh 14 w ∗ tok c mWh 15 w ∗ tok c mWh 16 w ∗ tok c mWh 17 w ∗ tok c mWh 18 w ∗ tok c mWh 19 w
    ∗ tok c mWh 20 w ∗ tok c mWh 21 w ∗ tok c mWh 22 w ∗ tok c mWh 23 w ∗ tok c mWh 24 w ∗ tok c mWh 25 w ∗ tok c mWh 26 w ∗ tok c mWh 27 w
    ∗ tok c mWh 28 w ∗ tok c mWh 29 w ∗ tok c mWh 30 w ∗ tok c mWh 31 w ∗ tok c mWh 32 w ∗ tok c mWh 33 w ∗ tok c mWh 34 w ∗ tok c mWh 35 w
    ∗ tok c mWh 36 w ∗ tok c mWh 37 w ∗ tok c mWh 38 w ∗ tok c mWh 39 w ∗ tok c mWh 40 w ∗ tok c mWh 41 w ∗ tok c mWh 42 w ∗ tok c mWh 43 w
    ∗ tok c mWh 44 w ∗ tok c mWh 45 w ∗ tok c mWh 46 w
    ∗ win c mW (Rect.unit (s := S9x1280x2560) ![0, 0, 0] S1x1280x512.size inb_S9x1280x2560_S1x1280x512_0_0_0) s2
    ∗ win c mW (Rect.unit (s := S9x1280x2560) ![1, 0, 0] S1x1280x512.size inb_S9x1280x2560_S1x1280x512_1_0_0) s2
    ∗ win c mW (Rect.unit (s := S9x1280x2560) ![2, 0, 0] S1x1280x512.size inb_S9x1280x2560_S1x1280x512_2_0_0) s2
    ∗ win c mW (Rect.unit (s := S9x1280x2560) ![3, 0, 0] S1x1280x512.size inb_S9x1280x2560_S1x1280x512_3_0_0) s2
    ∗ win c mW (Rect.unit (s := S9x1280x2560) ![4, 0, 0] S1x1280x512.size inb_S9x1280x2560_S1x1280x512_4_0_0) s2
    ∗ win c mW (Rect.unit (s := S9x1280x2560) ![5, 0, 0] S1x1280x512.size inb_S9x1280x2560_S1x1280x512_5_0_0) s2
    ∗ win c mW (Rect.unit (s := S9x1280x2560) ![6, 0, 0] S1x1280x512.size inb_S9x1280x2560_S1x1280x512_6_0_0) s2
    ∗ win c mW (Rect.unit (s := S9x1280x2560) ![7, 0, 0] S1x1280x512.size inb_S9x1280x2560_S1x1280x512_7_0_0) s2
    ∗ win c mW (Rect.unit (s := S9x1280x2560) ![8, 0, 0] S1x1280x512.size inb_S9x1280x2560_S1x1280x512_8_0_0) s2
    ∗ win c mW (Rect.unit (s := S9x1280x2560) ![0, 0, 512] S1x1280x512.size inb_S9x1280x2560_S1x1280x512_0_0_512) s2
    ∗ win c mW (Rect.unit (s := S9x1280x2560) ![1, 0, 512] S1x1280x512.size inb_S9x1280x2560_S1x1280x512_1_0_512) s2
    ∗ win c mW (Rect.unit (s := S9x1280x2560) ![2, 0, 512] S1x1280x512.size inb_S9x1280x2560_S1x1280x512_2_0_512) s2
    ∗ win c mW (Rect.unit (s := S9x1280x2560) ![3, 0, 512] S1x1280x512.size inb_S9x1280x2560_S1x1280x512_3_0_512) s2
    ∗ win c mW (Rect.unit (s := S9x1280x2560) ![4, 0, 512] S1x1280x512.size inb_S9x1280x2560_S1x1280x512_4_0_512) s2
    ∗ win c mW (Rect.unit (s := S9x1280x2560) ![5, 0, 512] S1x1280x512.size inb_S9x1280x2560_S1x1280x512_5_0_512) s2
    ∗ win c mW (Rect.unit (s := S9x1280x2560) ![6, 0, 512] S1x1280x512.size inb_S9x1280x2560_S1x1280x512_6_0_512) s2
    ∗ win c mW (Rect.unit (s := S9x1280x2560) ![7, 0, 512] S1x1280x512.size inb_S9x1280x2560_S1x1280x512_7_0_512) s2
    ∗ win c mW (Rect.unit (s := S9x1280x2560) ![8, 0, 512] S1x1280x512.size inb_S9x1280x2560_S1x1280x512_8_0_512) s2
    ∗ win c mW (Rect.unit (s := S9x1280x2560) ![0, 0, 1024] S1x1280x512.size inb_S9x1280x2560_S1x1280x512_0_0_1024) s2
    ∗ win c mW (Rect.unit (s := S9x1280x2560) ![1, 0, 1024] S1x1280x512.size inb_S9x1280x2560_S1x1280x512_1_0_1024) s2
    ∗ win c mW (Rect.unit (s := S9x1280x2560) ![2, 0, 1024] S1x1280x512.size inb_S9x1280x2560_S1x1280x512_2_0_1024) s2
    ∗ win c mW (Rect.unit (s := S9x1280x2560) ![3, 0, 1024] S1x1280x512.size inb_S9x1280x2560_S1x1280x512_3_0_1024) s2
    ∗ win c mW (Rect.unit (s := S9x1280x2560) ![4, 0, 1024] S1x1280x512.size inb_S9x1280x2560_S1x1280x512_4_0_1024) s2
    ∗ win c mW (Rect.unit (s := S9x1280x2560) ![5, 0, 1024] S1x1280x512.size inb_S9x1280x2560_S1x1280x512_5_0_1024) s2
    ∗ win c mW (Rect.unit (s := S9x1280x2560) ![6, 0, 1024] S1x1280x512.size inb_S9x1280x2560_S1x1280x512_6_0_1024) s2
    ∗ win c mW (Rect.unit (s := S9x1280x2560) ![7, 0, 1024] S1x1280x512.size inb_S9x1280x2560_S1x1280x512_7_0_1024) s2
    ∗ win c mW (Rect.unit (s := S9x1280x2560) ![8, 0, 1024] S1x1280x512.size inb_S9x1280x2560_S1x1280x512_8_0_1024) s2
    ∗ win c mW (Rect.unit (s := S9x1280x2560) ![0, 0, 1536] S1x1280x512.size inb_S9x1280x2560_S1x1280x512_0_0_1536) s2
    ∗ win c mW (Rect.unit (s := S9x1280x2560) ![1, 0, 1536] S1x1280x512.size inb_S9x1280x2560_S1x1280x512_1_0_1536) s2
    ∗ win c mW (Rect.unit (s := S9x1280x2560) ![2, 0, 1536] S1x1280x512.size inb_S9x1280x2560_S1x1280x512_2_0_1536) s2
    ∗ win c mW (Rect.unit (s := S9x1280x2560) ![3, 0, 1536] S1x1280x512.size inb_S9x1280x2560_S1x1280x512_3_0_1536) s2
    ∗ win c mW (Rect.unit (s := S9x1280x2560) ![4, 0, 1536] S1x1280x512.size inb_S9x1280x2560_S1x1280x512_4_0_1536) s2
    ∗ win c mW (Rect.unit (s := S9x1280x2560) ![5, 0, 1536] S1x1280x512.size inb_S9x1280x2560_S1x1280x512_5_0_1536) s2
    ∗ win c mW (Rect.unit (s := S9x1280x2560) ![6, 0, 1536] S1x1280x512.size inb_S9x1280x2560_S1x1280x512_6_0_1536) s2
    ∗ win c mW (Rect.unit (s := S9x1280x2560) ![7, 0, 1536] S1x1280x512.size inb_S9x1280x2560_S1x1280x512_7_0_1536) s2
    ∗ win c mW (Rect.unit (s := S9x1280x2560) ![8, 0, 1536] S1x1280x512.size inb_S9x1280x2560_S1x1280x512_8_0_1536) s2
    ∗ win c mW (Rect.unit (s := S9x1280x2560) ![0, 0, 2048] S1x1280x512.size inb_S9x1280x2560_S1x1280x512_0_0_2048) s2
    ∗ win c mW (Rect.unit (s := S9x1280x2560) ![1, 0, 2048] S1x1280x512.size inb_S9x1280x2560_S1x1280x512_1_0_2048) s2
    ∗ win c mW (Rect.unit (s := S9x1280x2560) ![2, 0, 2048] S1x1280x512.size inb_S9x1280x2560_S1x1280x512_2_0_2048) s2
    ∗ win c mW (Rect.unit (s := S9x1280x2560) ![3, 0, 2048] S1x1280x512.size inb_S9x1280x2560_S1x1280x512_3_0_2048) s2
    ∗ win c mW (Rect.unit (s := S9x1280x2560) ![4, 0, 2048] S1x1280x512.size inb_S9x1280x2560_S1x1280x512_4_0_2048) s2
    ∗ win c mW (Rect.unit (s := S9x1280x2560) ![5, 0, 2048] S1x1280x512.size inb_S9x1280x2560_S1x1280x512_5_0_2048) s2
    ∗ win c mW (Rect.unit (s := S9x1280x2560) ![6, 0, 2048] S1x1280x512.size inb_S9x1280x2560_S1x1280x512_6_0_2048) s2
    ∗ win c mW (Rect.unit (s := S9x1280x2560) ![7, 0, 2048] S1x1280x512.size inb_S9x1280x2560_S1x1280x512_7_0_2048) s2
    ∗ win c mW (Rect.unit (s := S9x1280x2560) ![8, 0, 2048] S1x1280x512.size inb_S9x1280x2560_S1x1280x512_8_0_2048) s2
    ∗ win c mO (Rect.unit (s := S2x4x2x16x2560) ![0, 0, 1, 0, 0] S2x4x1x16x512.size inb_S2x4x2x16x2560_S2x4x1x16x512_0_0_1_0_0) s4
    ∗ win c mO (Rect.unit (s := S2x4x2x16x2560) ![0, 0, 0, 0, 0] S2x4x1x16x512.size inb_S2x4x2x16x2560_S2x4x1x16x512_0_0_0_0_0) s4
    ∗ win c mO (Rect.unit (s := S2x4x2x16x2560) ![0, 0, 1, 0, 512] S2x4x1x16x512.size inb_S2x4x2x16x2560_S2x4x1x16x512_0_0_1_0_512) s4
    ∗ win c mO (Rect.unit (s := S2x4x2x16x2560) ![0, 0, 0, 0, 512] S2x4x1x16x512.size inb_S2x4x2x16x2560_S2x4x1x16x512_0_0_0_0_512) s4
    ∗ win c mO (Rect.unit (s := S2x4x2x16x2560) ![0, 0, 1, 0, 1024] S2x4x1x16x512.size inb_S2x4x2x16x2560_S2x4x1x16x512_0_0_1_0_1024) s4
    ∗ win c mO (Rect.unit (s := S2x4x2x16x2560) ![0, 0, 0, 0, 1024] S2x4x1x16x512.size inb_S2x4x2x16x2560_S2x4x1x16x512_0_0_0_0_1024) s4
    ∗ win c mO (Rect.unit (s := S2x4x2x16x2560) ![0, 0, 1, 0, 1536] S2x4x1x16x512.size inb_S2x4x2x16x2560_S2x4x1x16x512_0_0_1_0_1536) s4
    ∗ win c mO (Rect.unit (s := S2x4x2x16x2560) ![0, 0, 0, 0, 1536] S2x4x1x16x512.size inb_S2x4x2x16x2560_S2x4x1x16x512_0_0_0_0_1536) s4
    ∗ win c mO (Rect.unit (s := S2x4x2x16x2560) ![0, 0, 1, 0, 2048] S2x4x1x16x512.size inb_S2x4x2x16x2560_S2x4x1x16x512_0_0_1_0_2048) s4
    ∗ win c mO (Rect.unit (s := S2x4x2x16x2560) ![0, 0, 0, 0, 2048] S2x4x1x16x512.size inb_S2x4x2x16x2560_S2x4x1x16x512_0_0_0_0_2048) s4
    ∗ win c mX (Rect.unit (s := S2x4x2x16x2560) ![0, 0, 0, 0, 0] S2x4x1x16x512.size inb_S2x4x2x16x2560_S2x4x1x16x512_0_0_0_0_0) dx
    ∗ win c mX (Rect.unit (s := S2x4x2x16x2560) ![0, 0, 1, 0, 0] S2x4x1x16x512.size inb_S2x4x2x16x2560_S2x4x1x16x512_0_0_1_0_0) dx
    ∗ win c mX (Rect.unit (s := S2x4x2x16x2560) ![0, 0, 0, 0, 512] S2x4x1x16x512.size inb_S2x4x2x16x2560_S2x4x1x16x512_0_0_0_0_512) dx
    ∗ win c mX (Rect.unit (s := S2x4x2x16x2560) ![0, 0, 1, 0, 512] S2x4x1x16x512.size inb_S2x4x2x16x2560_S2x4x1x16x512_0_0_1_0_512) dx
    ∗ win c mX (Rect.unit (s := S2x4x2x16x2560) ![0, 0, 0, 0, 1024] S2x4x1x16x512.size inb_S2x4x2x16x2560_S2x4x1x16x512_0_0_0_0_1024) dx
    ∗ win c mX (Rect.unit (s := S2x4x2x16x2560) ![0, 0, 1, 0, 1024] S2x4x1x16x512.size inb_S2x4x2x16x2560_S2x4x1x16x512_0_0_1_0_1024) dx
    ∗ win c mX (Rect.unit (s := S2x4x2x16x2560) ![0, 0, 0, 0, 1536] S2x4x1x16x512.size inb_S2x4x2x16x2560_S2x4x1x16x512_0_0_0_0_1536) dx
    ∗ win c mX (Rect.unit (s := S2x4x2x16x2560) ![0, 0, 1, 0, 1536] S2x4x1x16x512.size inb_S2x4x2x16x2560_S2x4x1x16x512_0_0_1_0_1536) dx
    ∗ win c mX (Rect.unit (s := S2x4x2x16x2560) ![0, 0, 0, 0, 2048] S2x4x1x16x512.size inb_S2x4x2x16x2560_S2x4x1x16x512_0_0_0_0_2048) dx
    ∗ win c mX (Rect.unit (s := S2x4x2x16x2560) ![0, 0, 1, 0, 2048] S2x4x1x16x512.size inb_S2x4x2x16x2560_S2x4x1x16x512_0_0_1_0_2048) dx ∗ cell c 0
    ∗ cell c 1 ∗ cell c 2 ∗ cell c 3 ∗ cell c 4 ∗ cell c 5 ∗ cell c 6 ∗ cell c 7 ∗ cell c 8 ∗ cell c 9 ∗ cell c 10 ∗ cell c 11 ∗ cell c 12 ∗ cell c 13
    ∗ cell c 14 ∗ cell c 15 ∗ cell c 16 ∗ cell c 17 ∗ cell c 18 ∗ cell c 19 ∗ cell c 20 ∗ cell c 21 ∗ cell c 22 ∗ cell c 23 ∗ cell c 24 ∗ cell c 25
    ∗ cell c 26 ∗ cell c 27 ∗ cell c 28 ∗ cell c 29 ∗ cell c 30 ∗ cell c 31 ∗ cell c 32 ∗ cell c 33 ∗ cell c 34 ∗ cell c 35 ∗ cell c 36 ∗ cell c 37
    ∗ cell c 38 ∗ cell c 39 ∗ cell c 40 ∗ cell c 41 ∗ cell c 42 ∗ cell c 43 ∗ cell c 44 ∗ cell c 45 ∗ cell c 46 ∗ cell c 47 ∗ cell c 48 ∗ cell c 49
    ∗ cell c 50 ∗ cell c 51 ∗ cell c 52 ∗ cell c 53 ∗ cell c 54 ∗ cell c 55 ∗ cell c 56 ∗ cell c 57 ∗ cell c 58)

/-- What the body ends with: as `Start`, the results at `out`, the scratch buffers at contents that are not named. -/
def End (c : Dev nD) (dy : BufOf (F := F) c mDy) (ws : BufOf (F := F) c mWs) (w : BufOf (F := F) c mWh) (out : Out (F := F) c) : sProp 𝕄 :=
  iprop(pt c mDy dy ∗ pt c mWs ws ∗ pt c mCo out.co ∗ pt c mSc out.sc ∗ (∃ f, pt c mS0 f) ∗ (∃ f, pt c mS1 f) ∗ (∃ f, pt c mS3 f) ∗ (∃ f, pt c mS5 f)
    ∗ (∃ f, pt c mS6 f) ∗ tok c mWh 2 w ∗ tok c mWh 3 w ∗ tok c mWh 4 w ∗ tok c mWh 5 w ∗ tok c mWh 6 w ∗ tok c mWh 7 w ∗ tok c mWh 8 w
    ∗ tok c mWh 9 w ∗ tok c mWh 10 w ∗ tok c mWh 11 w ∗ tok c mWh 12 w ∗ tok c mWh 13 w ∗ tok c mWh 14 w ∗ tok c mWh 15 w ∗ tok c mWh 16 w
    ∗ tok c mWh 17 w ∗ tok c mWh 18 w ∗ tok c mWh 19 w ∗ tok c mWh 20 w ∗ tok c mWh 21 w ∗ tok c mWh 22 w ∗ tok c mWh 23 w ∗ tok c mWh 24 w
    ∗ tok c mWh 25 w ∗ tok c mWh 26 w ∗ tok c mWh 27 w ∗ tok c mWh 28 w ∗ tok c mWh 29 w ∗ tok c mWh 30 w ∗ tok c mWh 31 w ∗ tok c mWh 32 w
    ∗ tok c mWh 33 w ∗ tok c mWh 34 w ∗ tok c mWh 35 w ∗ tok c mWh 36 w ∗ tok c mWh 37 w ∗ tok c mWh 38 w ∗ tok c mWh 39 w ∗ tok c mWh 40 w
    ∗ tok c mWh 41 w ∗ tok c mWh 42 w ∗ tok c mWh 43 w ∗ tok c mWh 44 w ∗ tok c mWh 45 w ∗ tok c mWh 46 w
    ∗ (∃ f, win c mW (Rect.unit (s := S9x1280x2560) ![0, 0, 0] S1x1280x512.size inb_S9x1280x2560_S1x1280x512_0_0_0) f)
    ∗ (∃ f, win c mW (Rect.unit (s := S9x1280x2560) ![1, 0, 0] S1x1280x512.size inb_S9x1280x2560_S1x1280x512_1_0_0) f)
    ∗ (∃ f, win c mW (Rect.unit (s := S9x1280x2560) ![2, 0, 0] S1x1280x512.size inb_S9x1280x2560_S1x1280x512_2_0_0) f)
    ∗ (∃ f, win c mW (Rect.unit (s := S9x1280x2560) ![3, 0, 0] S1x1280x512.size inb_S9x1280x2560_S1x1280x512_3_0_0) f)
    ∗ (∃ f, win c mW (Rect.unit (s := S9x1280x2560) ![4, 0, 0] S1x1280x512.size inb_S9x1280x2560_S1x1280x512_4_0_0) f)
    ∗ (∃ f, win c mW (Rect.unit (s := S9x1280x2560) ![5, 0, 0] S1x1280x512.size inb_S9x1280x2560_S1x1280x512_5_0_0) f)
    ∗ (∃ f, win c mW (Rect.unit (s := S9x1280x2560) ![6, 0, 0] S1x1280x512.size inb_S9x1280x2560_S1x1280x512_6_0_0) f)
    ∗ (∃ f, win c mW (Rect.unit (s := S9x1280x2560) ![7, 0, 0] S1x1280x512.size inb_S9x1280x2560_S1x1280x512_7_0_0) f)
    ∗ (∃ f, win c mW (Rect.unit (s := S9x1280x2560) ![8, 0, 0] S1x1280x512.size inb_S9x1280x2560_S1x1280x512_8_0_0) f)
    ∗ (∃ f, win c mW (Rect.unit (s := S9x1280x2560) ![0, 0, 512] S1x1280x512.size inb_S9x1280x2560_S1x1280x512_0_0_512) f)
    ∗ (∃ f, win c mW (Rect.unit (s := S9x1280x2560) ![1, 0, 512] S1x1280x512.size inb_S9x1280x2560_S1x1280x512_1_0_512) f)
    ∗ (∃ f, win c mW (Rect.unit (s := S9x1280x2560) ![2, 0, 512] S1x1280x512.size inb_S9x1280x2560_S1x1280x512_2_0_512) f)
    ∗ (∃ f, win c mW (Rect.unit (s := S9x1280x2560) ![3, 0, 512] S1x1280x512.size inb_S9x1280x2560_S1x1280x512_3_0_512) f)
    ∗ (∃ f, win c mW (Rect.unit (s := S9x1280x2560) ![4, 0, 512] S1x1280x512.size inb_S9x1280x2560_S1x1280x512_4_0_512) f)
    ∗ (∃ f, win c mW (Rect.unit (s := S9x1280x2560) ![5, 0, 512] S1x1280x512.size inb_S9x1280x2560_S1x1280x512_5_0_512) f)
    ∗ (∃ f, win c mW (Rect.unit (s := S9x1280x2560) ![6, 0, 512] S1x1280x512.size inb_S9x1280x2560_S1x1280x512_6_0_512) f)
    ∗ (∃ f, win c mW (Rect.unit (s := S9x1280x2560) ![7, 0, 512] S1x1280x512.size inb_S9x1280x2560_S1x1280x512_7_0_512) f)
    ∗ (∃ f, win c mW (Rect.unit (s := S9x1280x2560) ![8, 0, 512] S1x1280x512.size inb_S9x1280x2560_S1x1280x512_8_0_512) f)
    ∗ (∃ f, win c mW (Rect.unit (s := S9x1280x2560) ![0, 0, 1024] S1x1280x512.size inb_S9x1280x2560_S1x1280x512_0_0_1024) f)
    ∗ (∃ f, win c mW (Rect.unit (s := S9x1280x2560) ![1, 0, 1024] S1x1280x512.size inb_S9x1280x2560_S1x1280x512_1_0_1024) f)
    ∗ (∃ f, win c mW (Rect.unit (s := S9x1280x2560) ![2, 0, 1024] S1x1280x512.size inb_S9x1280x2560_S1x1280x512_2_0_1024) f)
    ∗ (∃ f, win c mW (Rect.unit (s := S9x1280x2560) ![3, 0, 1024] S1x1280x512.size inb_S9x1280x2560_S1x1280x512_3_0_1024) f)
    ∗ (∃ f, win c mW (Rect.unit (s := S9x1280x2560) ![4, 0, 1024] S1x1280x512.size inb_S9x1280x2560_S1x1280x512_4_0_1024) f)
    ∗ (∃ f, win c mW (Rect.unit (s := S9x1280x2560) ![5, 0, 1024] S1x1280x512.size inb_S9x1280x2560_S1x1280x512_5_0_1024) f)
    ∗ (∃ f, win c mW (Rect.unit (s := S9x1280x2560) ![6, 0, 1024] S1x1280x512.size inb_S9x1280x2560_S1x1280x512_6_0_1024) f)
    ∗ (∃ f, win c mW (Rect.unit (s := S9x1280x2560) ![7, 0, 1024] S1x1280x512.size inb_S9x1280x2560_S1x1280x512_7_0_1024) f)
    ∗ (∃ f, win c mW (Rect.unit (s := S9x1280x2560) ![8, 0, 1024] S1x1280x512.size inb_S9x1280x2560_S1x1280x512_8_0_1024) f)
    ∗ (∃ f, win c mW (Rect.unit (s := S9x1280x2560) ![0, 0, 1536] S1x1280x512.size inb_S9x1280x2560_S1x1280x512_0_0_1536) f)
    ∗ (∃ f, win c mW (Rect.unit (s := S9x1280x2560) ![1, 0, 1536] S1x1280x512.size inb_S9x1280x2560_S1x1280x512_1_0_1536) f)
    ∗ (∃ f, win c mW (Rect.unit (s := S9x1280x2560) ![2, 0, 1536] S1x1280x512.size inb_S9x1280x2560_S1x1280x512_2_0_1536) f)
    ∗ (∃ f, win c mW (Rect.unit (s := S9x1280x2560) ![3, 0, 1536] S1x1280x512.size inb_S9x1280x2560_S1x1280x512_3_0_1536) f)
    ∗ (∃ f, win c mW (Rect.unit (s := S9x1280x2560) ![4, 0, 1536] S1x1280x512.size inb_S9x1280x2560_S1x1280x512_4_0_1536) f)
    ∗ (∃ f, win c mW (Rect.unit (s := S9x1280x2560) ![5, 0, 1536] S1x1280x512.size inb_S9x1280x2560_S1x1280x512_5_0_1536) f)
    ∗ (∃ f, win c mW (Rect.unit (s := S9x1280x2560) ![6, 0, 1536] S1x1280x512.size inb_S9x1280x2560_S1x1280x512_6_0_1536) f)
    ∗ (∃ f, win c mW (Rect.unit (s := S9x1280x2560) ![7, 0, 1536] S1x1280x512.size inb_S9x1280x2560_S1x1280x512_7_0_1536) f)
    ∗ (∃ f, win c mW (Rect.unit (s := S9x1280x2560) ![8, 0, 1536] S1x1280x512.size inb_S9x1280x2560_S1x1280x512_8_0_1536) f)
    ∗ (∃ f, win c mW (Rect.unit (s := S9x1280x2560) ![0, 0, 2048] S1x1280x512.size inb_S9x1280x2560_S1x1280x512_0_0_2048) f)
    ∗ (∃ f, win c mW (Rect.unit (s := S9x1280x2560) ![1, 0, 2048] S1x1280x512.size inb_S9x1280x2560_S1x1280x512_1_0_2048) f)
    ∗ (∃ f, win c mW (Rect.unit (s := S9x1280x2560) ![2, 0, 2048] S1x1280x512.size inb_S9x1280x2560_S1x1280x512_2_0_2048) f)
    ∗ (∃ f, win c mW (Rect.unit (s := S9x1280x2560) ![3, 0, 2048] S1x1280x512.size inb_S9x1280x2560_S1x1280x512_3_0_2048) f)
    ∗ (∃ f, win c mW (Rect.unit (s := S9x1280x2560) ![4, 0, 2048] S1x1280x512.size inb_S9x1280x2560_S1x1280x512_4_0_2048) f)
    ∗ (∃ f, win c mW (Rect.unit (s := S9x1280x2560) ![5, 0, 2048] S1x1280x512.size inb_S9x1280x2560_S1x1280x512_5_0_2048) f)
    ∗ (∃ f, win c mW (Rect.unit (s := S9x1280x2560) ![6, 0, 2048] S1x1280x512.size inb_S9x1280x2560_S1x1280x512_6_0_2048) f)
    ∗ (∃ f, win c mW (Rect.unit (s := S9x1280x2560) ![7, 0, 2048] S1x1280x512.size inb_S9x1280x2560_S1x1280x512_7_0_2048) f)
    ∗ (∃ f, win c mW (Rect.unit (s := S9x1280x2560) ![8, 0, 2048] S1x1280x512.size inb_S9x1280x2560_S1x1280x512_8_0_2048) f)
    ∗ (∃ f, win c mO (Rect.unit (s := S2x4x2x16x2560) ![0, 0, 1, 0, 0] S2x4x1x16x512.size inb_S2x4x2x16x2560_S2x4x1x16x512_0_0_1_0_0) f)
    ∗ (∃ f, win c mO (Rect.unit (s := S2x4x2x16x2560) ![0, 0, 0, 0, 0] S2x4x1x16x512.size inb_S2x4x2x16x2560_S2x4x1x16x512_0_0_0_0_0) f)
    ∗ (∃ f, win c mO (Rect.unit (s := S2x4x2x16x2560) ![0, 0, 1, 0, 512] S2x4x1x16x512.size inb_S2x4x2x16x2560_S2x4x1x16x512_0_0_1_0_512) f)
    ∗ (∃ f, win c mO (Rect.unit (s := S2x4x2x16x2560) ![0, 0, 0, 0, 512] S2x4x1x16x512.size inb_S2x4x2x16x2560_S2x4x1x16x512_0_0_0_0_512) f)
    ∗ (∃ f, win c mO (Rect.unit (s := S2x4x2x16x2560) ![0, 0, 1, 0, 1024] S2x4x1x16x512.size inb_S2x4x2x16x2560_S2x4x1x16x512_0_0_1_0_1024) f)
    ∗ (∃ f, win c mO (Rect.unit (s := S2x4x2x16x2560) ![0, 0, 0, 0, 1024] S2x4x1x16x512.size inb_S2x4x2x16x2560_S2x4x1x16x512_0_0_0_0_1024) f)
    ∗ (∃ f, win c mO (Rect.unit (s := S2x4x2x16x2560) ![0, 0, 1, 0, 1536] S2x4x1x16x512.size inb_S2x4x2x16x2560_S2x4x1x16x512_0_0_1_0_1536) f)
    ∗ (∃ f, win c mO (Rect.unit (s := S2x4x2x16x2560) ![0, 0, 0, 0, 1536] S2x4x1x16x512.size inb_S2x4x2x16x2560_S2x4x1x16x512_0_0_0_0_1536) f)
    ∗ (∃ f, win c mO (Rect.unit (s := S2x4x2x16x2560) ![0, 0, 1, 0, 2048] S2x4x1x16x512.size inb_S2x4x2x16x2560_S2x4x1x16x512_0_0_1_0_2048) f)
    ∗ (∃ f, win c mO (Rect.unit (s := S2x4x2x16x2560) ![0, 0, 0, 0, 2048] S2x4x1x16x512.size inb_S2x4x2x16x2560_S2x4x1x16x512_0_0_0_0_2048) f)
    ∗ win c mX (Rect.unit (s := S2x4x2x16x2560) ![0, 0, 0, 0, 0] S2x4x1x16x512.size inb_S2x4x2x16x2560_S2x4x1x16x512_0_0_0_0_0) out.x0
    ∗ win c mX (Rect.unit (s := S2x4x2x16x2560) ![0, 0, 1, 0, 0] S2x4x1x16x512.size inb_S2x4x2x16x2560_S2x4x1x16x512_0_0_1_0_0) out.x1
    ∗ win c mX (Rect.unit (s := S2x4x2x16x2560) ![0, 0, 0, 0, 512] S2x4x1x16x512.size inb_S2x4x2x16x2560_S2x4x1x16x512_0_0_0_0_512) out.x2
    ∗ win c mX (Rect.unit (s := S2x4x2x16x2560) ![0, 0, 1, 0, 512] S2x4x1x16x512.size inb_S2x4x2x16x2560_S2x4x1x16x512_0_0_1_0_512) out.x3
    ∗ win c mX (Rect.unit (s := S2x4x2x16x2560) ![0, 0, 0, 0, 1024] S2x4x1x16x512.size inb_S2x4x2x16x2560_S2x4x1x16x512_0_0_0_0_1024) out.x4
    ∗ win c mX (Rect.unit (s := S2x4x2x16x2560) ![0, 0, 1, 0, 1024] S2x4x1x16x512.size inb_S2x4x2x16x2560_S2x4x1x16x512_0_0_1_0_1024) out.x5
    ∗ win c mX (Rect.unit (s := S2x4x2x16x2560) ![0, 0, 0, 0, 1536] S2x4x1x16x512.size inb_S2x4x2x16x2560_S2x4x1x16x512_0_0_0_0_1536) out.x6
    ∗ win c mX (Rect.unit (s := S2x4x2x16x2560) ![0, 0, 1, 0, 1536] S2x4x1x16x512.size inb_S2x4x2x16x2560_S2x4x1x16x512_0_0_1_0_1536) out.x7
    ∗ win c mX (Rect.unit (s := S2x4x2x16x2560) ![0, 0, 0, 0, 2048] S2x4x1x16x512.size inb_S2x4x2x16x2560_S2x4x1x16x512_0_0_0_0_2048) out.x8
    ∗ win c mX (Rect.unit (s := S2x4x2x16x2560) ![0, 0, 1, 0, 2048] S2x4x1x16x512.size inb_S2x4x2x16x2560_S2x4x1x16x512_0_0_1_0_2048) out.x9
    ∗ cell c 0 ∗ cell c 1 ∗ cell c 2 ∗ cell c 3 ∗ cell c 4 ∗ cell c 5 ∗ cell c 6 ∗ cell c 7 ∗ cell c 8 ∗ cell c 9 ∗ cell c 10 ∗ cell c 11 ∗ cell c 12
    ∗ cell c 13 ∗ cell c 14 ∗ cell c 15 ∗ cell c 16 ∗ cell c 17 ∗ cell c 18 ∗ cell c 19 ∗ cell c 20 ∗ cell c 21 ∗ cell c 22 ∗ cell c 23 ∗ cell c 24
    ∗ cell c 25 ∗ cell c 26 ∗ cell c 27 ∗ cell c 28 ∗ cell c 29 ∗ cell c 30 ∗ cell c 31 ∗ cell c 32 ∗ cell c 33 ∗ cell c 34 ∗ cell c 35 ∗ cell c 36
    ∗ cell c 37 ∗ cell c 38 ∗ cell c 39 ∗ cell c 40 ∗ cell c 41 ∗ cell c 42 ∗ cell c 43 ∗ cell c 44 ∗ cell c 45 ∗ cell c 46 ∗ cell c 47 ∗ cell c 48
    ∗ cell c 49 ∗ cell c 50 ∗ cell c 51 ∗ cell c 52 ∗ cell c 53 ∗ cell c 54 ∗ cell c 55 ∗ cell c 56 ∗ cell c 57 ∗ cell c 58)

set_option maxHeartbeats 0 in
set_option sl_exec.resultNames true in
/-- The body runs from `Start` to `End`, at the results that the run names. -/
def kernelRun (c : Dev nD) (dy : BufOf (F := F) c mDy) (ws : BufOf (F := F) c mWs) (co : BufOf (F := F) c mCo) (sc : BufOf (F := F) c mSc) (s0 : BufOf (F := F) c mS0) (s1 : BufOf (F := F) c mS1) (s3 : BufOf (F := F) c mS3) (s5 : BufOf (F := F) c mS5) (s6 : BufOf (F := F) c mS6) (w : BufOf (F := F) c mWh) (s2 : BufOf (F := F) c mW) (s4 : BufOf (F := F) c mO) (dx : BufOf (F := F) c mX) :
    { out : Out (F := F) c // ∀ (W : Waits sig Unit) (K : PUnit → sProp 𝕄),
      iprop(Start c dy ws co sc s0 s1 s3 s5 s6 w s2 s4 dx ∗ owes (c : Thread nD τ) 0 W
          ∗ (iprop(End c dy ws w out ∗ (∃ W', owes (c : Thread nD τ) 0 W')) -∗ K ⟨⟩))
        ⊢ wp frame (wpE (defs₀ (F := F)) Variants.none c none) Set.univ (body (F := F)) K } := by
  refine ⟨⟨?x0, ?x1, ?x2, ?x3, ?x4, ?x5, ?x6, ?x7, ?x8, ?x9, ?xco, ?xsc⟩, fun W K => ?run⟩
  case run =>
    unfold body; rw [cc0_conv3x3_dgrad_eq_skeleton]; unfold cc0_conv3x3_dgrad_skel Start End
    iintro ⟨⟨HdyH, HwsH, HcoH, HscH, Hdy, Hws, Hl, Hco, Hsc, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25, Hw26, Hw27, Hw28, Hw29, Hw30, Hw31, Hw32, Hw33, Hw34, Hw35, Hw36, Hw37, Hw38, Hw39, Hw40, Hw41, Hw42, Hw43, Hw44, Ho1, Ho0, Ho3, Ho2, Ho5, Ho4, Ho7, Ho6, Ho9, Ho8, Hx0, Hx1, Hx2, Hx3, Hx4, Hx5, Hx6, Hx7, Hx8, Hx9, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58⟩, HW, Hk⟩
    sl_exec_parts
    sl_step
    iapply Hk
    isplitr [HW]
    · isplitl [HdyH]; · iexact HdyH
      isplitl [HwsH]; · iexact HwsH
      isplitl [HcoH]; · iexact HcoH
      isplitl [HscH]; · iexact HscH
      isplitl [Hdy]; · iexists _; iexact Hdy
      isplitl [Hws]; · iexists _; iexact Hws
      isplitl [Hl]; · iexists _; iexact Hl
      isplitl [Hco]; · iexists _; iexact Hco
      isplitl [Hsc]; · iexists _; iexact Hsc
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      isplitl [Ht19]; · iexact Ht19
      isplitl [Ht20]; · iexact Ht20
      isplitl [Ht21]; · iexact Ht21
      isplitl [Ht22]; · iexact Ht22
      isplitl [Ht23]; · iexact Ht23
      isplitl [Ht24]; · iexact Ht24
      isplitl [Ht25]; · iexact Ht25
      isplitl [Ht26]; · iexact Ht26
      isplitl [Ht27]; · iexact Ht27
      isplitl [Ht28]; · iexact Ht28
      isplitl [Ht29]; · iexact Ht29
      isplitl [Ht30]; · iexact Ht30
      isplitl [Ht31]; · iexact Ht31
      isplitl [Ht32]; · iexact Ht32
      isplitl [Ht33]; · iexact Ht33
      isplitl [Ht34]; · iexact Ht34
      isplitl [Ht35]; · iexact Ht35
      isplitl [Ht36]; · iexact Ht36
      isplitl [Ht37]; · iexact Ht37
      isplitl [Ht38]; · iexact Ht38
      isplitl [Ht39]; · iexact Ht39
      isplitl [Ht40]; · iexact Ht40
      isplitl [Ht41]; · iexact Ht41
      isplitl [Ht42]; · iexact Ht42
      isplitl [Ht43]; · iexact Ht43
      isplitl [Ht44]; · iexact Ht44
      isplitl [Hw0]; · iexists _; iexact Hw0
      isplitl [Hw1]; · iexists _; iexact Hw1
      isplitl [Hw2]; · iexists _; iexact Hw2
      isplitl [Hw3]; · iexists _; iexact Hw3
      isplitl [Hw4]; · iexists _; iexact Hw4
      isplitl [Hw5]; · iexists _; iexact Hw5
      isplitl [Hw6]; · iexists _; iexact Hw6
      isplitl [Hw7]; · iexists _; iexact Hw7
      isplitl [Hw8]; · iexists _; iexact Hw8
      isplitl [Hw9]; · iexists _; iexact Hw9
      isplitl [Hw10]; · iexists _; iexact Hw10
      isplitl [Hw11]; · iexists _; iexact Hw11
      isplitl [Hw12]; · iexists _; iexact Hw12
      isplitl [Hw13]; · iexists _; iexact Hw13
      isplitl [Hw14]; · iexists _; iexact Hw14
      isplitl [Hw15]; · iexists _; iexact Hw15
      isplitl [Hw16]; · iexists _; iexact Hw16
      isplitl [Hw17]; · iexists _; iexact Hw17
      isplitl [Hw18]; · iexists _; iexact Hw18
      isplitl [Hw19]; · iexists _; iexact Hw19
      isplitl [Hw20]; · iexists _; iexact Hw20
      isplitl [Hw21]; · iexists _; iexact Hw21
      isplitl [Hw22]; · iexists _; iexact Hw22
      isplitl [Hw23]; · iexists _; iexact Hw23
      isplitl [Hw24]; · iexists _; iexact Hw24
      isplitl [Hw25]; · iexists _; iexact Hw25
      isplitl [Hw26]; · iexists _; iexact Hw26
      isplitl [Hw27]; · iexists _; iexact Hw27
      isplitl [Hw28]; · iexists _; iexact Hw28
      isplitl [Hw29]; · iexists _; iexact Hw29
      isplitl [Hw30]; · iexists _; iexact Hw30
      isplitl [Hw31]; · iexists _; iexact Hw31
      isplitl [Hw32]; · iexists _; iexact Hw32
      isplitl [Hw33]; · iexists _; iexact Hw33
      isplitl [Hw34]; · iexists _; iexact Hw34
      isplitl [Hw35]; · iexists _; iexact Hw35
      isplitl [Hw36]; · iexists _; iexact Hw36
      isplitl [Hw37]; · iexists _; iexact Hw37
      isplitl [Hw38]; · iexists _; iexact Hw38
      isplitl [Hw39]; · iexists _; iexact Hw39
      isplitl [Hw40]; · iexists _; iexact Hw40
      isplitl [Hw41]; · iexists _; iexact Hw41
      isplitl [Hw42]; · iexists _; iexact Hw42
      isplitl [Hw43]; · iexists _; iexact Hw43
      isplitl [Hw44]; · iexists _; iexact Hw44
      isplitl [Ho1]; · iexists _; iexact Ho1
      isplitl [Ho0]; · iexists _; iexact Ho0
      isplitl [Ho3]; · iexists _; iexact Ho3
      isplitl [Ho2]; · iexists _; iexact Ho2
      isplitl [Ho5]; · iexists _; iexact Ho5
      isplitl [Ho4]; · iexists _; iexact Ho4
      isplitl [Ho7]; · iexists _; iexact Ho7
      isplitl [Ho6]; · iexists _; iexact Ho6
      isplitl [Ho9]; · iexists _; iexact Ho9
      isplitl [Ho8]; · iexists _; iexact Ho8
      isplitl [Hx0]; · iexact Hx0
      isplitl [Hx1]; · iexact Hx1
      isplitl [Hx2]; · iexact Hx2
      isplitl [Hx3]; · iexact Hx3
      isplitl [Hx4]; · iexact Hx4
      isplitl [Hx5]; · iexact Hx5
      isplitl [Hx6]; · iexact Hx6
      isplitl [Hx7]; · iexact Hx7
      isplitl [Hx8]; · iexact Hx8
      isplitl [Hx9]; · iexact Hx9
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      isplitl [Hq40]; · iexact Hq40
      isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      isplitl [Hq49]; · iexact Hq49
      isplitl [Hq50]; · iexact Hq50
      isplitl [Hq51]; · iexact Hq51
      isplitl [Hq52]; · iexact Hq52
      isplitl [Hq53]; · iexact Hq53
      isplitl [Hq54]; · iexact Hq54
      isplitl [Hq55]; · iexact Hq55
      isplitl [Hq56]; · iexact Hq56
      isplitl [Hq57]; · iexact Hq57
      iexact Hq58
    · iexists _; iexact HW

end Cert.KernelIdeal.Hand
end
-- ==== Proof.KernelIdealBody.lean ====
/-
  The body run between whole buffers: the split of the kernel's buffers into the pieces that its transfers move and their
  join back, and the run of the body from whole buffers to whole buffers (`body_run`).
-/
module

public import proofs.«01_k».proof.Proof.KernelIdealRun
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The windows -/

/-- Landing window `k` of the weights' scratch: tap `k % 9`, output channels from `512 (k / 9)`. -/
def wRect (k : Fin 45) : Rect S9x1280x2560 :=
  Rect.unit ![k.val % 9, 0, 512 * (k.val / 9)] S1x1280x512.size (by revert k; decide)

/-- Window `k` of the input gradient: row parity `k % 2`, output channels from `512 (k / 2)`. -/
def xRect (k : Fin 10) : Rect S2x4x2x16x2560 :=
  Rect.unit ![0, 0, k.val % 2, 0, 512 * (k.val / 2)] S2x4x1x16x512.size (by revert k; decide)

theorem mem_wRect {k : Fin 45} {i : S9x1280x2560.Idx} :
    i ∈ (wRect k).set ↔ (i 0).val = k.val % 9 ∧ 512 * (k.val / 9) ≤ (i 2).val ∧ (i 2).val < 512 * (k.val / 9) + 512 := by
  unfold wRect
  rw [Rect.mem_set_unit, Fin.forall_fin_succ, Fin.forall_fin_succ, Fin.forall_fin_succ]
  have h1 : (i 1).val < 1280 := (i 1).isLt
  have e : (∀ a : Fin 0, ![k.val % 9, 0, 512 * (k.val / 9)] a.succ.succ.succ ≤ (i a.succ.succ.succ).val ∧ (i a.succ.succ.succ).val < ![k.val % 9, 0, 512 * (k.val / 9)] a.succ.succ.succ + S1x1280x512.size a.succ.succ.succ) ↔ True := iff_true_intro fun a => a.elim0
  show ((k.val % 9 ≤ (i 0).val ∧ (i 0).val < k.val % 9 + 1) ∧ (0 ≤ (i 1).val ∧ (i 1).val < 0 + 1280)
    ∧ (512 * (k.val / 9) ≤ (i 2).val ∧ (i 2).val < 512 * (k.val / 9) + 512) ∧ _) ↔ _
  constructor
  · rintro ⟨a, b, d, -⟩; omega
  · rintro ⟨a, b⟩; exact ⟨by omega, by omega, by omega, fun a => a.elim0⟩

theorem mem_xRect {k : Fin 10} {i : S2x4x2x16x2560.Idx} :
    i ∈ (xRect k).set ↔ (i 2).val = k.val % 2 ∧ 512 * (k.val / 2) ≤ (i 4).val ∧ (i 4).val < 512 * (k.val / 2) + 512 := by
  unfold xRect
  rw [Rect.mem_set_unit, Fin.forall_fin_succ, Fin.forall_fin_succ, Fin.forall_fin_succ, Fin.forall_fin_succ, Fin.forall_fin_succ]
  have h0 : (i 0).val < 2 := (i 0).isLt
  have h1 : (i 1).val < 4 := (i 1).isLt
  have h3 : (i 3).val < 16 := (i 3).isLt
  show ((0 ≤ (i 0).val ∧ (i 0).val < 0 + 2) ∧ (0 ≤ (i 1).val ∧ (i 1).val < 0 + 4)
    ∧ (k.val % 2 ≤ (i 2).val ∧ (i 2).val < k.val % 2 + 1) ∧ (0 ≤ (i 3).val ∧ (i 3).val < 0 + 16)
    ∧ (512 * (k.val / 2) ≤ (i 4).val ∧ (i 4).val < 512 * (k.val / 2) + 512) ∧ _) ↔ _
  constructor
  · rintro ⟨a, b, d, e, f, -⟩; omega
  · rintro ⟨a, b⟩; exact ⟨by omega, by omega, by omega, by omega, by omega, fun a => a.elim0⟩

theorem wRect_disjoint (k k' : Fin 45) (h : k ≠ k') : Disjoint (mW.view.setOn (wRect k).set) (mW.view.setOn (wRect k').set) := by
  refine View.disjoint_setOn _ (Finset.disjoint_left.mpr fun i hi hi' => h (Fin.ext ?_))
  have a := mem_wRect.mp hi
  have b := mem_wRect.mp hi'
  omega

theorem xRect_disjoint {sp : Space} (M : Memref sig .tc sp S2x4x2x16x2560 .bf16) (k k' : Fin 10) (h : k ≠ k') :
    Disjoint (M.view.setOn (xRect k).set) (M.view.setOn (xRect k').set) := by
  refine View.disjoint_setOn _ (Finset.disjoint_left.mpr fun i hi hi' => h (Fin.ext ?_))
  have a := mem_xRect.mp hi
  have b := mem_xRect.mp hi'
  omega

theorem wRect_cover : Finset.univ.biUnion (fun k : Fin 45 => mW.view.setOn (wRect k).set) = Finset.univ := by
  refine Finset.eq_univ_iff_forall.mpr fun i => Finset.mem_biUnion.mpr ?_
  have h0 : ((i : S9x1280x2560.Idx) 0).val < 9 := (i 0).isLt
  have h2 : ((i : S9x1280x2560.Idx) 2).val < 2560 := (i 2).isLt
  refine ⟨⟨9 * (((i : S9x1280x2560.Idx) 2).val / 512) + ((i : S9x1280x2560.Idx) 0).val, by omega⟩, Finset.mem_univ _, ?_⟩
  exact (View.mem_setOn _).mpr (mem_wRect.mpr (by dsimp only; omega))

theorem xRect_mem (i : S2x4x2x16x2560.Idx) : ∃ k : Fin 10, i ∈ (xRect k).set := by
  have h2 : (i 2).val < 2 := (i 2).isLt
  have h4 : (i 4).val < 2560 := (i 4).isLt
  exact ⟨⟨2 * ((i 4).val / 512) + (i 2).val, by omega⟩, mem_xRect.mpr (by dsimp only; omega)⟩

theorem oRect_cover : Finset.univ.biUnion (fun k : Fin 10 => mO.view.setOn (xRect k).set) = Finset.univ := by
  refine Finset.eq_univ_iff_forall.mpr fun i => Finset.mem_biUnion.mpr ?_
  obtain ⟨k, hk⟩ := xRect_mem i
  exact ⟨k, Finset.mem_univ _, (View.mem_setOn _).mpr hk⟩

theorem xRect_cover : Finset.univ.biUnion (fun k : Fin 10 => mX.view.setOn (xRect k).set) = Finset.univ := by
  refine Finset.eq_univ_iff_forall.mpr fun i => Finset.mem_biUnion.mpr ?_
  obtain ⟨k, hk⟩ := xRect_mem i
  exact ⟨k, Finset.mem_univ _, (View.mem_setOn _).mpr hk⟩

/-! ## Families, listed -/

/-- A family over 10 indices, listed. -/
theorem chain10 (Φ : Fin 10 → sProp 𝕄) : (bigSep Finset.univ Φ : sProp 𝕄) =
    iprop(Φ 0 ∗ Φ 1 ∗ Φ 2 ∗ Φ 3 ∗ Φ 4 ∗ Φ 5 ∗ Φ 6 ∗ Φ 7 ∗ Φ 8 ∗ Φ 9) := by
  rw [BI.bigSep_eq_bigSepL_of_eq [0, 1, 2, 3, 4, 5, 6, 7, 8, 9] (by decide) (by decide)]; rfl

/-- A family over 45 indices, listed. -/
theorem chain45 (Φ : Fin 45 → sProp 𝕄) : (bigSep Finset.univ Φ : sProp 𝕄) =
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20
      ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39
      ∗ Φ 40 ∗ Φ 41 ∗ Φ 42 ∗ Φ 43 ∗ Φ 44) := by
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44] (by decide) (by decide)]; rfl

/-- A family over 47 indices, listed. -/
theorem chain47 (Φ : Fin 47 → sProp 𝕄) : (bigSep Finset.univ Φ : sProp 𝕄) =
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20
      ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39
      ∗ Φ 40 ∗ Φ 41 ∗ Φ 42 ∗ Φ 43 ∗ Φ 44 ∗ Φ 45 ∗ Φ 46) := by
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46] (by decide) (by decide)]; rfl

/-- A family over 59 indices, listed. -/
theorem chain59 (Φ : Fin 59 → sProp 𝕄) : (bigSep Finset.univ Φ : sProp 𝕄) =
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20
      ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39
      ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58) := by
  rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58] (by decide) (by decide)]; rfl

/-! ## The run from whole buffers to whole buffers -/

/-- What a run leaves in window `k` of the input gradient. -/
def Out.x {c : Dev nD} (out : Out (F := F) c) : Fin 10 → BufOf (F := F) c mX :=
  ![out.x0, out.x1, out.x2, out.x3, out.x4, out.x5, out.x6, out.x7, out.x8, out.x9]

/-- The small buffers, the scratch buffers and the results, whole; the weights whole; the counters at zero. -/
def Whole (c : Dev nD) (dy : BufOf (F := F) c mDy) (ws : BufOf (F := F) c mWs) (co : BufOf (F := F) c mCo) (sc : BufOf (F := F) c mSc) (s0 : BufOf (F := F) c mS0) (s1 : BufOf (F := F) c mS1) (s3 : BufOf (F := F) c mS3) (s5 : BufOf (F := F) c mS5) (s6 : BufOf (F := F) c mS6) (w : BufOf (F := F) c mWh) (s2 : BufOf (F := F) c mW) (s4 : BufOf (F := F) c mO) (dx : BufOf (F := F) c mX) : sProp 𝕄 :=
  iprop(pt c mDy dy ∗ pt c mWs ws ∗ pt c mCo co ∗ pt c mSc sc ∗ pt c mS0 s0 ∗ pt c mS1 s1 ∗ pt c mS3 s3 ∗ pt c mS5 s5 ∗ pt c mS6 s6 ∗ pt c mWh w ∗ pt c mW s2 ∗ pt c mO s4 ∗ pt c mX dx
    ∗ bigSep Finset.univ fun k : Fin 59 => cell c k)

/-- The read tokens of the weights that no transfer takes, and what is left beside the tokens. -/
def Rest (c : Dev nD) (w : BufOf (F := F) c mWh) : sProp 𝕄 :=
  iprop((mWh.view.loc (c : Thread nD τ) ↦{Transfers.shareDrop fullShare 47} w) ∗ tok c mWh 0 w ∗ tok c mWh 1 w)

/-- The weights' scratch is its forty-five landing windows. -/
theorem wins_w (c : Dev nD) (f : BufOf (F := F) c mW) :
    (pt c mW f : sProp 𝕄) = bigSep Finset.univ fun k : Fin 45 => win c mW (wRect k) f :=
  Ring.pointsTo_blocks (ℓ := mW.view.loc (c : Thread nD τ)) (q := fullShare) (fun k : Fin 45 => mW.view.setOn (wRect k).set)
    wRect_disjoint wRect_cover f

/-- The input gradient's scratch is its ten windows. -/
theorem wins_o (c : Dev nD) (f : BufOf (F := F) c mO) :
    (pt c mO f : sProp 𝕄) = bigSep Finset.univ fun k : Fin 10 => win c mO (xRect k) f :=
  Ring.pointsTo_blocks (ℓ := mO.view.loc (c : Thread nD τ)) (q := fullShare) (fun k : Fin 10 => mO.view.setOn (xRect k).set)
    (xRect_disjoint mO) oRect_cover f

/-- The input gradient is its ten windows. -/
theorem wins_x (c : Dev nD) (f : BufOf (F := F) c mX) :
    (pt c mX f : sProp 𝕄) = bigSep Finset.univ fun k : Fin 10 => win c mX (xRect k) f :=
  Ring.pointsTo_blocks (ℓ := mX.view.loc (c : Thread nD τ)) (q := fullShare) (fun k : Fin 10 => mX.view.setOn (xRect k).set)
    (xRect_disjoint mX) xRect_cover f

/-- Whole buffers split into what the body starts from. -/
theorem start_of_whole (c : Dev nD) (dy : BufOf (F := F) c mDy) (ws : BufOf (F := F) c mWs) (co : BufOf (F := F) c mCo) (sc : BufOf (F := F) c mSc) (s0 : BufOf (F := F) c mS0) (s1 : BufOf (F := F) c mS1) (s3 : BufOf (F := F) c mS3) (s5 : BufOf (F := F) c mS5) (s6 : BufOf (F := F) c mS6) (w : BufOf (F := F) c mWh) (s2 : BufOf (F := F) c mW) (s4 : BufOf (F := F) c mO) (dx : BufOf (F := F) c mX) :
    Whole c dy ws co sc s0 s1 s3 s5 s6 w s2 s4 dx ⊢ iprop(Start c dy ws co sc s0 s1 s3 s5 s6 w s2 s4 dx ∗ Rest c w) := by
  unfold Whole
  rw [wins_w, wins_o, wins_x,
    chain45, chain10, chain10, chain59]
  iintro ⟨HdyH, HwsH, HcoH, HscH, Hdy, Hws, Hl, Hco, Hsc, Hwh, ⟨Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25, Hw26, Hw27, Hw28, Hw29, Hw30, Hw31, Hw32, Hw33, Hw34, Hw35, Hw36, Hw37, Hw38, Hw39, Hw40, Hw41, Hw42, Hw43, Hw44⟩, ⟨Ho0, Ho1, Ho2, Ho3, Ho4, Ho5, Ho6, Ho7, Ho8, Ho9⟩, ⟨Hx0, Hx1, Hx2, Hx3, Hx4, Hx5, Hx6, Hx7, Hx8, Hx9⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58⟩⟩
  ihave Hwt := (Transfers.pointsTo_toks_split fullShare 47) $$ Hwh
  icases Hwt with ⟨Hd, Htt⟩
  ihave Hts := (Entails.of_eq (chain47 _)) $$ Htt
  icases Hts with ⟨Hta, Htb, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44⟩
  unfold Start Rest
  isplitr [Hd Hta Htb]
  · isplitl [HdyH]; · iexact HdyH
    isplitl [HwsH]; · iexact HwsH
    isplitl [HcoH]; · iexact HcoH
    isplitl [HscH]; · iexact HscH
    isplitl [Hdy]; · iexact Hdy
    isplitl [Hws]; · iexact Hws
    isplitl [Hl]; · iexact Hl
    isplitl [Hco]; · iexact Hco
    isplitl [Hsc]; · iexact Hsc
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    isplitl [Ht31]; · iexact Ht31
    isplitl [Ht32]; · iexact Ht32
    isplitl [Ht33]; · iexact Ht33
    isplitl [Ht34]; · iexact Ht34
    isplitl [Ht35]; · iexact Ht35
    isplitl [Ht36]; · iexact Ht36
    isplitl [Ht37]; · iexact Ht37
    isplitl [Ht38]; · iexact Ht38
    isplitl [Ht39]; · iexact Ht39
    isplitl [Ht40]; · iexact Ht40
    isplitl [Ht41]; · iexact Ht41
    isplitl [Ht42]; · iexact Ht42
    isplitl [Ht43]; · iexact Ht43
    isplitl [Ht44]; · iexact Ht44
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    isplitl [Hw25]; · iexact Hw25
    isplitl [Hw26]; · iexact Hw26
    isplitl [Hw27]; · iexact Hw27
    isplitl [Hw28]; · iexact Hw28
    isplitl [Hw29]; · iexact Hw29
    isplitl [Hw30]; · iexact Hw30
    isplitl [Hw31]; · iexact Hw31
    isplitl [Hw32]; · iexact Hw32
    isplitl [Hw33]; · iexact Hw33
    isplitl [Hw34]; · iexact Hw34
    isplitl [Hw35]; · iexact Hw35
    isplitl [Hw36]; · iexact Hw36
    isplitl [Hw37]; · iexact Hw37
    isplitl [Hw38]; · iexact Hw38
    isplitl [Hw39]; · iexact Hw39
    isplitl [Hw40]; · iexact Hw40
    isplitl [Hw41]; · iexact Hw41
    isplitl [Hw42]; · iexact Hw42
    isplitl [Hw43]; · iexact Hw43
    isplitl [Hw44]; · iexact Hw44
    isplitl [Ho1]; · iexact Ho1
    isplitl [Ho0]; · iexact Ho0
    isplitl [Ho3]; · iexact Ho3
    isplitl [Ho2]; · iexact Ho2
    isplitl [Ho5]; · iexact Ho5
    isplitl [Ho4]; · iexact Ho4
    isplitl [Ho7]; · iexact Ho7
    isplitl [Ho6]; · iexact Ho6
    isplitl [Ho9]; · iexact Ho9
    isplitl [Ho8]; · iexact Ho8
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    isplitl [Hq38]; · iexact Hq38
    isplitl [Hq39]; · iexact Hq39
    isplitl [Hq40]; · iexact Hq40
    isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    iexact Hq58
  · isplitl [Hd]; · iexact Hd
    isplitl [Hta]; · iexact Hta
    iexact Htb

/-- What the body ends with, joined into whole buffers: the input gradient at contents that agree, window by window, with
    what the run leaves. -/
theorem whole_of_end (c : Dev nD) (dy : BufOf (F := F) c mDy) (ws : BufOf (F := F) c mWs) (w : BufOf (F := F) c mWh) (out : Out (F := F) c)
    (s2 : BufOf (F := F) c mW) (s4 : BufOf (F := F) c mO) :
    iprop(End c dy ws w out ∗ Rest c w)
      ⊢ iprop(∃ s0 s1 s3 s5 s6 s2 s4 dx, ⌜∀ k : Fin 10, ∀ i ∈ mX.view.setOn (xRect k).set, dx i = out.x k i⌝
          ∗ Whole c dy ws out.co out.sc s0 s1 s3 s5 s6 w s2 s4 dx) := by
  unfold End Rest
  iintro ⟨⟨HdyH, HwsH, HcoH, HscH, ⟨%fHdy, Hdy⟩, ⟨%fHws, Hws⟩, ⟨%fHl, Hl⟩, ⟨%fHco, Hco⟩, ⟨%fHsc, Hsc⟩, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Hw0, Hw1, Hw2, Hw3, Hw4, Hw5, Hw6, Hw7, Hw8, Hw9, Hw10, Hw11, Hw12, Hw13, Hw14, Hw15, Hw16, Hw17, Hw18, Hw19, Hw20, Hw21, Hw22, Hw23, Hw24, Hw25, Hw26, Hw27, Hw28, Hw29, Hw30, Hw31, Hw32, Hw33, Hw34, Hw35, Hw36, Hw37, Hw38, Hw39, Hw40, Hw41, Hw42, Hw43, Hw44, Ho1, Ho0, Ho3, Ho2, Ho5, Ho4, Ho7, Ho6, Ho9, Ho8, Hx0, Hx1, Hx2, Hx3, Hx4, Hx5, Hx6, Hx7, Hx8, Hx9, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58⟩, Hd, Hta, Htb⟩
  ihave Hwh := (Transfers.pointsTo_toks_join (ℓ := mWh.view.loc (c : Thread nD τ)) (S := Finset.univ) (f := w) fullShare 47) $$ [Hd Hta Htb Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33 Ht34 Ht35 Ht36 Ht37 Ht38 Ht39 Ht40 Ht41 Ht42 Ht43 Ht44]
  · isplitl [Hd]; · iexact Hd
    iapply (Entails.of_eq (chain47 (fun i : Fin 47 => mWh.view.loc (c : Thread nD τ) ↦{Transfers.shareTok fullShare 47 i} w)).symm)
    isplitl [Hta]; · iexact Hta
    isplitl [Htb]; · iexact Htb
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    isplitl [Ht31]; · iexact Ht31
    isplitl [Ht32]; · iexact Ht32
    isplitl [Ht33]; · iexact Ht33
    isplitl [Ht34]; · iexact Ht34
    isplitl [Ht35]; · iexact Ht35
    isplitl [Ht36]; · iexact Ht36
    isplitl [Ht37]; · iexact Ht37
    isplitl [Ht38]; · iexact Ht38
    isplitl [Ht39]; · iexact Ht39
    isplitl [Ht40]; · iexact Ht40
    isplitl [Ht41]; · iexact Ht41
    isplitl [Ht42]; · iexact Ht42
    isplitl [Ht43]; · iexact Ht43
    iexact Ht44
  ihave HW := (Ring.pointsTo_blocks_join_exists (fun k : Fin 45 => mW.view.setOn (wRect k).set) wRect_disjoint wRect_cover s2) $$ [Hw0 Hw1 Hw2 Hw3 Hw4 Hw5 Hw6 Hw7 Hw8 Hw9 Hw10 Hw11 Hw12 Hw13 Hw14 Hw15 Hw16 Hw17 Hw18 Hw19 Hw20 Hw21 Hw22 Hw23 Hw24 Hw25 Hw26 Hw27 Hw28 Hw29 Hw30 Hw31 Hw32 Hw33 Hw34 Hw35 Hw36 Hw37 Hw38 Hw39 Hw40 Hw41 Hw42 Hw43 Hw44]
  · iapply (Entails.of_eq (chain45 (fun k : Fin 45 => iprop(∃ f, win c mW (wRect k) f))).symm)
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    isplitl [Hw18]; · iexact Hw18
    isplitl [Hw19]; · iexact Hw19
    isplitl [Hw20]; · iexact Hw20
    isplitl [Hw21]; · iexact Hw21
    isplitl [Hw22]; · iexact Hw22
    isplitl [Hw23]; · iexact Hw23
    isplitl [Hw24]; · iexact Hw24
    isplitl [Hw25]; · iexact Hw25
    isplitl [Hw26]; · iexact Hw26
    isplitl [Hw27]; · iexact Hw27
    isplitl [Hw28]; · iexact Hw28
    isplitl [Hw29]; · iexact Hw29
    isplitl [Hw30]; · iexact Hw30
    isplitl [Hw31]; · iexact Hw31
    isplitl [Hw32]; · iexact Hw32
    isplitl [Hw33]; · iexact Hw33
    isplitl [Hw34]; · iexact Hw34
    isplitl [Hw35]; · iexact Hw35
    isplitl [Hw36]; · iexact Hw36
    isplitl [Hw37]; · iexact Hw37
    isplitl [Hw38]; · iexact Hw38
    isplitl [Hw39]; · iexact Hw39
    isplitl [Hw40]; · iexact Hw40
    isplitl [Hw41]; · iexact Hw41
    isplitl [Hw42]; · iexact Hw42
    isplitl [Hw43]; · iexact Hw43
    iexact Hw44
  ihave HO := (Ring.pointsTo_blocks_join_exists (fun k : Fin 10 => mO.view.setOn (xRect k).set) (xRect_disjoint mO) oRect_cover s4) $$ [Ho0 Ho1 Ho2 Ho3 Ho4 Ho5 Ho6 Ho7 Ho8 Ho9]
  · iapply (Entails.of_eq (chain10 (fun k : Fin 10 => iprop(∃ f, win c mO (xRect k) f))).symm)
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    iexact Ho9
  ihave HX := (pointsTo_biUnion_join (q := fullShare) Finset.univ (fun k : Fin 10 => mX.view.setOn (xRect k).set) out.x out.x0
      (fun k _ k' _ h => xRect_disjoint mX k k' h)) $$ [Hx0 Hx1 Hx2 Hx3 Hx4 Hx5 Hx6 Hx7 Hx8 Hx9]
  · iapply (Entails.of_eq (chain10 (fun k : Fin 10 => win c mX (xRect k) (out.x k))).symm)
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    iexact Hx9
  rw [xRect_cover]
  icases HW with ⟨%g2, HW⟩
  icases HO with ⟨%g4, HO⟩
  icases HX with ⟨%gx, %hgx, HX⟩
  iexists fHdy, fHws, fHl, fHco, fHsc, g2, g4, gx
  isplitr
  · ipureintro; exact fun k i hi => hgx k (Finset.mem_univ _) i hi
  unfold Whole
  isplitl [HdyH]; · iexact HdyH
  isplitl [HwsH]; · iexact HwsH
  isplitl [HcoH]; · iexact HcoH
  isplitl [HscH]; · iexact HscH
  isplitl [Hdy]; · iexact Hdy
  isplitl [Hws]; · iexact Hws
  isplitl [Hl]; · iexact Hl
  isplitl [Hco]; · iexact Hco
  isplitl [Hsc]; · iexact Hsc
  isplitl [Hwh]; · iexact Hwh
  isplitl [HW]; · iexact HW
  isplitl [HO]; · iexact HO
  isplitl [HX]; · iexact HX
  iapply (Entails.of_eq (chain59 (fun k : Fin 59 => cell c k)).symm)
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hq33]; · iexact Hq33
  isplitl [Hq34]; · iexact Hq34
  isplitl [Hq35]; · iexact Hq35
  isplitl [Hq36]; · iexact Hq36
  isplitl [Hq37]; · iexact Hq37
  isplitl [Hq38]; · iexact Hq38
  isplitl [Hq39]; · iexact Hq39
  isplitl [Hq40]; · iexact Hq40
  isplitl [Hq41]; · iexact Hq41
  isplitl [Hq42]; · iexact Hq42
  isplitl [Hq43]; · iexact Hq43
  isplitl [Hq44]; · iexact Hq44
  isplitl [Hq45]; · iexact Hq45
  isplitl [Hq46]; · iexact Hq46
  isplitl [Hq47]; · iexact Hq47
  isplitl [Hq48]; · iexact Hq48
  isplitl [Hq49]; · iexact Hq49
  isplitl [Hq50]; · iexact Hq50
  isplitl [Hq51]; · iexact Hq51
  isplitl [Hq52]; · iexact Hq52
  isplitl [Hq53]; · iexact Hq53
  isplitl [Hq54]; · iexact Hq54
  isplitl [Hq55]; · iexact Hq55
  isplitl [Hq56]; · iexact Hq56
  isplitl [Hq57]; · iexact Hq57
  iexact Hq58

/-- The body's run between whole buffers: it ends with the operands unchanged, the counters at zero, and the results at
    contents for which `P` holds, for every `P` that holds of what the run leaves. -/
theorem body_run (c : Dev nD) (dy : BufOf (F := F) c mDy) (ws : BufOf (F := F) c mWs) (co : BufOf (F := F) c mCo) (sc : BufOf (F := F) c mSc) (s0 : BufOf (F := F) c mS0) (s1 : BufOf (F := F) c mS1) (s3 : BufOf (F := F) c mS3) (s5 : BufOf (F := F) c mS5) (s6 : BufOf (F := F) c mS6) (w : BufOf (F := F) c mWh) (s2 : BufOf (F := F) c mW) (s4 : BufOf (F := F) c mO) (dx : BufOf (F := F) c mX)
    (P : BufOf (F := F) c mX → BufOf (F := F) c mCo → BufOf (F := F) c mSc → Prop)
    (hP : ∀ dx', (∀ k : Fin 10, ∀ i ∈ mX.view.setOn (xRect k).set, dx' i = (kernelRun c dy ws co sc s0 s1 s3 s5 s6 w s2 s4 dx).1.x k i) →
      P dx' (kernelRun c dy ws co sc s0 s1 s3 s5 s6 w s2 s4 dx).1.co (kernelRun c dy ws co sc s0 s1 s3 s5 s6 w s2 s4 dx).1.sc)
    (W : Waits sig Unit) (K : PUnit → sProp 𝕄) :
    iprop(Whole c dy ws co sc s0 s1 s3 s5 s6 w s2 s4 dx ∗ owes (c : Thread nD τ) 0 W
        ∗ (iprop((∃ co sc s0 s1 s3 s5 s6 s2 s4 dx, ⌜P dx co sc⌝ ∗ Whole c dy ws co sc s0 s1 s3 s5 s6 w s2 s4 dx)
            ∗ (∃ W', owes (c : Thread nD τ) 0 W')) -∗ K ⟨⟩))
      ⊢ wp frame (wpE (defs₀ (F := F)) Variants.none c none) Set.univ (body (F := F)) K := by
  iintro ⟨H, HW, Hk⟩
  ihave H' := (start_of_whole c dy ws co sc s0 s1 s3 s5 s6 w s2 s4 dx) $$ H
  icases H' with ⟨HS, HR⟩
  iapply ((kernelRun c dy ws co sc s0 s1 s3 s5 s6 w s2 s4 dx).2 W K)
  isplitl [HS]; · iexact HS
  isplitl [HW]; · iexact HW
  iintro ⟨HE, HW⟩
  iapply Hk
  isplitr [HW]
  · ihave H2 := (whole_of_end c dy ws w (kernelRun c dy ws co sc s0 s1 s3 s5 s6 w s2 s4 dx).1 s2 s4) $$ [HE HR]
    · isplitl [HE]; · iexact HE
      iexact HR
    icases H2 with ⟨%t0, %t1, %t3, %t5, %t6, %t2, %t4, %tx, %htx, H2⟩
    iexists _, _, t0, t1, t3, t5, t6, t2, t4, tx
    isplitr
    · ipureintro; exact hP tx htx
    · iexact H2
  · iexact HW

end Cert.KernelIdeal.Hand

end
-- ==== Proof.KernelIdealFrame.lean ====
/-
  The frame of the kernel's program read over the reals: it runs to its end without a fault, leaves its three arguments unchanged and every
  semaphore counter at zero.
-/
module

public import proofs.«01_k».proof.Proof.KernelIdealBody
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch facts -/

/-- The kernel's own transfer counters, all fifty-nine. -/
abbrev osem0 : Fin 59 → SemLoc sig := fun j => SemLoc.dma j
theorem ownSemFacts0 : Pipeline.OwnSemFacts cfg0.spec osem0 := by decide

/-- The HBM operands that the body's transfers read: the incoming gradient, the weights by tap, the channel scales. -/
def H0 : Finset (Ref sig .tc) := {main_arg0, main_v1, main_v2}
theorem H0_sub : H0 ⊆ Pipeline.restRefs sig cfg0.spec := by decide
/-- The HBM results that the body's transfers write: the input gradient, the codes, the scales. -/
def R0 : Finset (Ref sig .tc) := {main_v3_0, main_v3_1, main_v3_2}
theorem R0_sub : R0 ⊆ Pipeline.restRefs sig cfg0.spec \ H0 := by decide

theorem ownSems00_eq (c : Dev nD) :
    (Pipeline.ownSems0 (Ix := Unit) (Name := ℕ) (U := Pipeline.UD sig nD τ) (Lvl := ℕ) (Val := Elt F) (τ := τ) osem0 c : sProp 𝕄)
      = bigSep Finset.univ fun k : Fin 59 => cell c k := rfl

theorem hbmPts0_eq (c : Dev nD) (G : (b : Ref sig .tc) → Buf (Elt F) ((c : Thread nD τ).loc b)) :
    (bigSep H0 (fun b => ((c : Thread nD τ).loc b) ↦{fullShare} G b) : sProp 𝕄)
      = iprop(pt c mDy (G main_arg0) ∗ pt c mWh (G main_v1) ∗ pt c mWs (G main_v2)) := by
  rw [BI.bigSep_eq_bigSepL_of_eq [main_arg0, main_v1, main_v2] (by decide) (by decide)]; rfl

/-- No window is staged: the stars over the windows are empty. -/
theorem bigSep_W0 (f : Fin cfg0.W → sProp 𝕄) : bigSep Finset.univ f = iprop(emp) :=
  (congrArg (fun s => bigSep s f) (show (Finset.univ : Finset (Fin cfg0.W)) = ∅ from rfl)).trans bigSep_empty

theorem defs₀_row (t : Fin cfg0.N) :
    defs₀ (F := F) .tc cfg0.body (cfg0.bodyArgs t (cfg0.slots t)) = body := by
  unfold defs₀; rw [Defs.onTc_tc]

theorem sfx_writes : ∀ ops ∈ ([hostOps1] : List (List (HloOp τ sig (Elt F)))), ∀ op ∈ ops, ∀ b : Ref sig .tc,
    Proc.devRef .tc b ∈ op.writes → b ∈ ({main_v4} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb ⊢
  by_contra h; exact StableHlo.devRef_ne_of_ne h hb

set_option maxHeartbeats 800000 in
/-- The program up to its region, continued by its last line. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem ownedPts0_eq (c : Dev nD) :
    (Pipeline.owned R0 c : sProp 𝕄) = iprop((∃ f, pt c mX f) ∗ (∃ f, pt c mCo f) ∗ (∃ f, pt c mSc f)) := by
  unfold Pipeline.owned; rw [BI.bigSep_eq_bigSepL_of_eq [main_v3_0, main_v3_1, main_v3_2] (by decide) (by decide)]; rfl

/-- The region's invariant, listed. -/
theorem Phi_eq (c : Dev nD) :
    (Pipeline.ΦDR osem0 cfg0.spec H0 R0 (V m) c : sProp 𝕄)
      = iprop(iprop((∃ f, pt c mS0 f) ∗ (∃ f, pt c mS1 f) ∗ (∃ f, pt c mW f) ∗ (∃ f, pt c mS3 f) ∗ (∃ f, pt c mO f) ∗ (∃ f, pt c mS5 f) ∗ (∃ f, pt c mS6 f))
          ∗ (∃ r, prngReg c r) ∗ (bigSep Finset.univ fun k : Fin 59 => cell c k)
          ∗ iprop(pt c mDy (V m c main_arg0) ∗ pt c mWh (V m c main_v1) ∗ pt c mWs (V m c main_v2))
          ∗ iprop((∃ f, pt c mX f) ∗ (∃ f, pt c mCo f) ∗ (∃ f, pt c mSc f))) := by
  rw [Pipeline.ΦDR_eq, scopedRest0_eq, ownSems00_eq, hbmPts0_eq, ownedPts0_eq]

/-! ## The body obligation -/

/-- The proof data of the region: the invariant is the same before and after its one point. -/
def dats (_ : Fin 1) (c : Dev nD) : Dat τ (Elt F) Unit ℕ (Pipeline.UD sig nD τ) ℕ cfg0 c where
  A w := Fin.elim0 w
  after w _ := Fin.elim0 w
  Φ _ := Pipeline.ΦDR osem0 cfg0.spec H0 R0 (V m) c
  q _ := fullShare
  owed _ := 0

theorem sound_body (c : Dev nD) (t : Fin cfg0.N) :
    iprop((dats m 0 c).Φ t.castSucc ∗ (dats m 0 c).owesAt () t.castSucc)
      ⊢ wp frame (wpE (defs₀ (F := F)) Variants.none c none) Set.univ body (fun _ => iprop((dats m 0 c).Φ t.succ ∗ (dats m 0 c).owesAt () t.succ)) := by
  rw [show (dats m 0 c).Φ t.succ = (dats m 0 c).Φ t.castSucc from rfl]
  rw [show (dats m 0 c).Φ t.castSucc = Pipeline.ΦDR osem0 cfg0.spec H0 R0 (V m) c from rfl, Phi_eq]
  unfold Dat.owesAt Pipeline.owesWithin
  rw [show (dats m 0 c).owed t.castSucc = 0 from rfl, show (dats m 0 c).owed t.succ = 0 from rfl]
  iintro ⟨⟨⟨⟨%s0, H0⟩, ⟨%s1, H1⟩, ⟨%s2, H2⟩, ⟨%s3, H3⟩, ⟨%s4, H4⟩, ⟨%s5, H5⟩, ⟨%s6, H6⟩⟩, Hg, Hq, ⟨Hdy, Hwh, Hws⟩, ⟨%dx, Hx⟩, ⟨%co, Hco⟩, ⟨%sc, Hsc⟩⟩, ⟨%W, -, HW⟩⟩
  iapply (body_run c (V m c main_arg0) (V m c main_v2) co sc s0 s1 s3 s5 s6 (V m c main_v1) s2 s4 dx (fun _ _ _ => True) (fun _ _ => trivial) W _)
  isplitr [HW Hg]
  · unfold Whole
    isplitl [Hdy]; · iexact Hdy
    isplitl [Hws]; · iexact Hws
    isplitl [Hco]; · iexact Hco
    isplitl [Hsc]; · iexact Hsc
    isplitl [H0]; · iexact H0
    isplitl [H1]; · iexact H1
    isplitl [H3]; · iexact H3
    isplitl [H5]; · iexact H5
    isplitl [H6]; · iexact H6
    isplitl [Hwh]; · iexact Hwh
    isplitl [H2]; · iexact H2
    isplitl [H4]; · iexact H4
    isplitl [Hx]; · iexact Hx
    iexact Hq
  isplitl [HW]; · iexact HW
  unfold Whole
  iintro ⟨⟨%co', %sc', %t0, %t1, %t3, %t5, %t6, %t2, %t4, %dx', -, Hdy, Hws, Hco, Hsc, H0, H1, H3, H5, H6, Hwh, H2, H4, Hx, Hq⟩, ⟨%W', HW'⟩⟩
  isplitr [HW']
  · isplitl [H0 H1 H2 H3 H4 H5 H6]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
    isplitl [Hg]; · iexact Hg
    isplitl [Hq]; · iexact Hq
    isplitl [Hdy Hwh Hws]
    · isplitl [Hdy]; · iexact Hdy
      isplitl [Hwh]; · iexact Hwh
      iexact Hws
    isplitl [Hx]; · iexists _; iexact Hx
    isplitl [Hco]; · iexists _; iexact Hco
    iexists _; iexact Hsc
  iexists W'; isplitr; · ipureintro; exact fun _ _ => Or.inl trivial
  iexact HW'

theorem body_obligation (c : Dev nD) : BodyObligationLoose (dats (F := F) m 0 c) (defs₀ (F := F)) Variants.none () Set.univ := by
  refine Pipeline.BodyObligation.loose _ (show BodyObligation (dats (F := F) m 0 c) (defs₀ (F := F)) Variants.none () Set.univ from fun t => ?_)
  rw [bigSep_W0, bigSep_W0, defs₀_row]
  exact triple_restated (sound_body m c t) rfl (by iintro ⟨H1, H2, -⟩; isplitl [H1]; · iexact H1
                                                   iexact H2) fun _ => (by iintro ⟨H1, H2⟩; isplitl [H1]; · iexact H1
                                                                           isplitl [H2]; · iexact H2
                                                                           iempintro)

set_option backward.isDefEq.respectTransparency.types false in
/-- The run of the whole program, at its frame post. -/
theorem run_main : θ_run defs (onTc (τ := τ) (main (F := F))) (s₀ m ρ)
    (fun r => Pipeline.FramePostR cfgs (dats m) 0 (R0 ∪ {main_v4}) (V m) r ∧ r.2.sem = fun _ => 0) :=
  Pipeline.θ_run_frame_dmaR_around (Q' := _) cfgs (dats m) (0 : Fin 1) launch0 osem0 defs₀ Variants.none ownSemFacts0 H0 R0 {main_v4} H0_sub R0_sub m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmainD m Variants.none) (hA := fun _ w => Fin.elim0 w)
    (hin := fun _ => .rfl) (hout := fun _ => .rfl)

/-- The frame: the three arguments end unchanged and every semaphore counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
     ((h.1 c).2 main_arg1 (Finset.mem_sdiff.mpr ⟨Pipeline.mem_restRefs_of main_arg1 (by decide) (by decide), by decide⟩)).trans (V_main_arg1 m c),
     ((h.1 c).2 main_arg2 (Finset.mem_sdiff.mpr ⟨Pipeline.mem_restRefs_of main_arg2 (by decide) (by decide), by decide⟩)).trans (V_main_arg2 m c)⟩, h.2⟩) (run_main m ρ)

end Cert.KernelIdeal.Hand

end
-- ==== Proof.Scale.lean ====
module

public import Idealize.ShloMosaic.Lib.Pipeline.Value
public import Idealize.ShloMosaic.PureOps.Ideal.Laws

@[expose] public section

noncomputable section

/-! The quantiser's scale over the extended reals: a binary search of the exponent field of a float word finds the least
    power of two above its argument, and the word with the mirrored exponent reads as the reciprocal. -/

namespace Cert.Scale

open Idealize.ShloMosaic

/-- What a float word holding only the exponent field `b` reads as. -/
def thr (b : BitVec 32) : EReal := Ideal.ofBits .f32 (b <<< (23#32))

/-- Exponent field 0 reads as zero. -/
theorem thr_zero : thr 0#32 = 0 := by simp [thr, Ideal.ofBits, Ideal.ieee]

/-- Exponent field 255 reads as infinity. -/
theorem thr_top : thr 255#32 = ⊤ := by simp [thr, Ideal.ofBits, Ideal.ieee]

/-- Exponent field `b` between 1 and 254 reads as `2 ^ (b - 127)`. -/
theorem thr_pos (b : ℕ) (h1 : 1 ≤ b) (h2 : b ≤ 254) : thr (BitVec.ofNat 32 b) = (((2 : ℝ) ^ ((b : ℤ) - 127) : ℝ) : EReal) := by
  have hx : (BitVec.ofNat 32 b <<< (23#32)).toNat = b * 2 ^ 23 := by
    rw [BitVec.shiftLeft_eq', show (23#32 : BitVec 32).toNat = 23 from rfl, BitVec.toNat_shiftLeft, BitVec.toNat_ofNat,
      Nat.shiftLeft_eq]
    omega
  have e1 : ((BitVec.ofNat 32 b <<< (23#32)).extractLsb' (8 + 23) 1) = 0#1 := by
    apply BitVec.eq_of_toNat_eq
    rw [BitVec.extractLsb'_toNat, hx, Nat.shiftRight_eq_div_pow]
    simp only [BitVec.toNat_ofNat]
    omega
  have e2 : ((BitVec.ofNat 32 b <<< (23#32)).extractLsb' 23 8).toNat = b := by
    rw [BitVec.extractLsb'_toNat, hx, Nat.shiftRight_eq_div_pow]
    omega
  have e3 : ((BitVec.ofNat 32 b <<< (23#32)).extractLsb' 0 23).toNat = 0 := by
    rw [BitVec.extractLsb'_toNat, hx, Nat.shiftRight_eq_div_pow]
    omega
  have hz : ((b : ℤ) - 127) = 23 + ((b : ℤ) - (2 ^ (8 - 1) - 1) - (23 : ℕ)) := by push_cast; omega
  have hc : ((2 ^ 23 + 0 : ℕ) : ℝ) = (2 : ℝ) ^ (23 : ℤ) := by norm_num
  have key : ∀ w : BitVec 32, w.extractLsb' (8 + 23) 1 = 0#1 → (w.extractLsb' 23 8).toNat = b → (w.extractLsb' 0 23).toNat = 0 →
      Ideal.ieee 8 23 w = (((2 : ℝ) ^ ((b : ℤ) - 127) : ℝ) : EReal) := by
    intro w w1 w2 w3
    unfold Ideal.ieee
    simp only [w1, w2, w3]
    rw [if_neg (show ¬ b = 2 ^ 8 - 1 by omega), if_neg (show ¬ b = 0 by omega), hz, zpow_add₀ (by norm_num : (2 : ℝ) ≠ 0), ← hc]
    simp
  exact key _ e1 e2 e3

/-- One step of the search: take the bit if the word is not above `x`. -/
def step (x : EReal) (bit b : BitVec 32) : BitVec 32 := if thr (b + bit) ≤ x then b + bit else b

/-- The search over the exponent's eight bits, the highest first. -/
def expo (x : EReal) : BitVec 32 :=
  step x 1#32 (step x 2#32 (step x 4#32 (step x 8#32 (step x 16#32 (step x 32#32 (step x 64#32 (step x 128#32 0#32)))))))

/-- The exponent shifted to the scale's: 0 for a zero or an infinite argument. -/
def shifted (b : BitVec 32) : BitVec 32 := if b = 0#32 ∨ b = 255#32 then 0#32 else b - 126#32

/-- The scale as the search finds it. -/
def kscale (x : EReal) : EReal := thr (127#32 + shifted (expo x))

/-- The scale's reciprocal as the search finds it. -/
def kinv (x : EReal) : EReal := thr (127#32 - shifted (expo x))

/-- What the search keeps: the word found is not above `x`, the word `k` fields further on is. -/
def Inv (x : EReal) (k : ℕ) (b : BitVec 32) : Prop :=
  ∃ n : ℕ, b = BitVec.ofNat 32 n ∧ thr b ≤ x ∧ (n + k ≤ 255 → x < thr (BitVec.ofNat 32 (n + k))) ∧ n + k ≤ 256

/-- A step halves the distance. -/
theorem Inv.step {x : EReal} {k : ℕ} {b : BitVec 32} (h : Inv x (2 * k) b) : Inv x k (step x (BitVec.ofNat 32 k) b) := by
  obtain ⟨n, rfl, h1, h2, h3⟩ := h
  have hadd : BitVec.ofNat 32 n + BitVec.ofNat 32 k = BitVec.ofNat 32 (n + k) := by
    rw [BitVec.ofNat_add]
  unfold Cert.Scale.step
  rw [hadd]
  split
  · rename_i hle
    exact ⟨n + k, rfl, hle, fun h => by rw [show n + k + k = n + 2 * k by ring]; exact h2 (by omega), by omega⟩
  · rename_i hle
    exact ⟨n, rfl, h1, fun _ => not_le.mp hle, by omega⟩

/-- The search ends at the greatest word not above `x`. -/
theorem inv_expo (x : EReal) (hx : 0 ≤ x) : Inv x 1 (expo x) := by
  have h0 : Inv x (2 * 128) 0#32 := ⟨0, rfl, by rw [thr_zero]; exact hx, fun h => by omega, by omega⟩
  exact (Inv.step (k := 1) (Inv.step (k := 2) (Inv.step (k := 4) (Inv.step (k := 8) (Inv.step (k := 16) (Inv.step (k := 32)
    (Inv.step (k := 64) (Inv.step (k := 128) h0))))))))

/-- The least of the powers `2 ^ (i - 126)`, `i < 254`, that is above `x`; 1 if `x` is below the least normal word. -/
def rscale (x : EReal) : EReal :=
  if x < thr 1#32 then 1
  else (Finset.univ : Finset (Fin 254)).fold min ⊤ fun i => if x < (((2 : ℝ) ^ ((i.val : ℤ) - 126) : ℝ) : EReal) then (((2 : ℝ) ^ ((i.val : ℤ) - 126) : ℝ) : EReal) else ⊤

/-- For a nonnegative argument below `2 ^ 125` the search finds the least power of two above it, and its reciprocal. -/
theorem scale_eq (x : EReal) (hx : 0 ≤ x) (hb : x < thr 252#32) :
    kscale x = rscale x ∧ kinv x = Ideal.div 1 (rscale x) := by
  obtain ⟨n, hn, h1, h2, h3⟩ := inv_expo x hx
  have mono : ∀ a b : ℕ, 1 ≤ a → a ≤ b → b ≤ 254 → thr (BitVec.ofNat 32 a) ≤ thr (BitVec.ofNat 32 b) := by
    intro a b h1 h2 h3
    rw [thr_pos a h1 (by omega), thr_pos b (by omega) h3]
    exact EReal.coe_le_coe_iff.mpr (zpow_le_zpow_right₀ (by norm_num) (by omega))
  have hn252 : n < 252 := by
    by_contra hge
    rcases Nat.lt_or_ge n 255 with h | h
    · exact absurd (lt_of_lt_of_le hb ((mono 252 n (by omega) (by omega) (by omega)).trans (hn ▸ h1))) (lt_irrefl _)
    · have : n = 255 := by omega
      subst this
      rw [hn, thr_top] at h1
      exact absurd (lt_of_lt_of_le hb (le_top.trans h1)) (lt_irrefl _)
  unfold kscale kinv rscale
  rcases Nat.eq_zero_or_pos n with h0 | hpos
  · subst h0
    have hlt : x < thr 1#32 := h2 (by omega)
    have e1 : thr 127#32 = 1 := by
      have := thr_pos 127 (by omega) (by omega)
      rw [this]; norm_num
    rw [if_pos hlt, hn]
    have : shifted (BitVec.ofNat 32 0) = 0#32 := by decide
    rw [this]
    refine ⟨by simpa using e1, ?_⟩
    rw [show (127#32 - 0#32) = 127#32 by decide, e1]
    simp [Ideal.div]
  · have hge : ¬ x < thr 1#32 := not_lt.mpr ((mono 1 n (by omega) hpos (by omega)).trans (hn ▸ h1))
    rw [if_neg hge, hn]
    have hsh : shifted (BitVec.ofNat 32 n) = BitVec.ofNat 32 n - 126#32 := by
      unfold shifted
      rw [if_neg]
      rintro (h | h)
      · have := congrArg BitVec.toNat h; simp only [BitVec.toNat_ofNat] at this; omega
      · have := congrArg BitVec.toNat h; simp only [BitVec.toNat_ofNat] at this; omega
    have ea : 127#32 + shifted (BitVec.ofNat 32 n) = BitVec.ofNat 32 (n + 1) := by
      rw [hsh]; apply BitVec.eq_of_toNat_eq
      simp only [BitVec.toNat_add, BitVec.toNat_sub, BitVec.toNat_ofNat]; omega
    have eb : 127#32 - shifted (BitVec.ofNat 32 n) = BitVec.ofNat 32 (253 - n) := by
      rw [hsh]; apply BitVec.eq_of_toNat_eq
      simp only [BitVec.toNat_sub, BitVec.toNat_ofNat]; omega
    rw [ea, eb, thr_pos (n + 1) (by omega) (by omega), thr_pos (253 - n) (by omega) (by omega)]
    have hlo : (((2 : ℝ) ^ ((n : ℤ) - 127) : ℝ) : EReal) ≤ x := by rw [← thr_pos n hpos (by omega), ← hn]; exact h1
    have hhi : x < (((2 : ℝ) ^ ((n : ℤ) - 126) : ℝ) : EReal) := by
      have := h2 (by omega)
      rw [thr_pos (n + 1) (by omega) (by omega)] at this
      rwa [show ((n + 1 : ℕ) : ℤ) - 127 = (n : ℤ) - 126 by push_cast; ring] at this
    have hmin : ((Finset.univ : Finset (Fin 254)).fold min ⊤ fun i => if x < (((2 : ℝ) ^ ((i.val : ℤ) - 126) : ℝ) : EReal) then (((2 : ℝ) ^ ((i.val : ℤ) - 126) : ℝ) : EReal) else ⊤)
        = (((2 : ℝ) ^ ((n : ℤ) - 126) : ℝ) : EReal) := by
      apply le_antisymm
      · rw [Finset.fold_min_le]
        right
        refine ⟨⟨n, by omega⟩, Finset.mem_univ _, ?_⟩
        simp only
        rw [if_pos hhi]
      · rw [Finset.le_fold_min]
        refine ⟨le_top, fun i _ => ?_⟩
        split
        · rename_i hi
          rcases Nat.lt_or_ge i.val n with h | h
          · exfalso
            have : (((2 : ℝ) ^ ((i.val : ℤ) - 126) : ℝ) : EReal) ≤ (((2 : ℝ) ^ ((n : ℤ) - 127) : ℝ) : EReal) :=
              EReal.coe_le_coe_iff.mpr (zpow_le_zpow_right₀ (by norm_num) (by omega))
            exact absurd (lt_of_lt_of_le hi (this.trans hlo)) (lt_irrefl _)
          · exact EReal.coe_le_coe_iff.mpr (zpow_le_zpow_right₀ (by norm_num) (by omega))
        · exact le_top
    rw [hmin]
    refine ⟨by congr 2; push_cast; ring, ?_⟩
    unfold Ideal.div
    have hne : (((2 : ℝ) ^ ((n : ℤ) - 126) : ℝ) : EReal) ≠ 0 := by
      intro h
      have h' := EReal.coe_eq_zero.mp h
      exact (zpow_ne_zero _ (by norm_num : (2 : ℝ) ≠ 0)) h'
    rw [if_neg hne, one_mul, ← EReal.coe_inv, ← zpow_neg]
    congr 2
    rw [Nat.cast_sub (by omega)]; push_cast; ring

end Cert.Scale
-- ==== Proof.Spec.lean ====
module

public import Idealize.ShloMosaic.Lib.Pointwise
public import proofs.«01_k».proof.Proof.Scale

@[expose] public section

noncomputable section

/-! What both programs compute, over the extended reals: an image's greatest magnitude, its scale, its codes, and an
    element of the input gradient by row and column parity. -/

namespace Cert.Spec

open Idealize.ShloMosaic

/-- The greatest magnitude in an image. -/
def amax (f : Fin 4 → Fin 8 → Fin 1280 → EReal) : EReal :=
  (Finset.univ : Finset (Fin 4 × Fin 8 × Fin 1280)).fold max ⊥ fun t => max (f t.1 t.2.1 t.2.2) (-(f t.1 t.2.1 t.2.2))

/-- The scale's argument: the greatest magnitude over the largest code. -/
def X (f : Fin 4 → Fin 8 → Fin 1280 → EReal) : EReal := amax f * Ideal.ofBits .f32 0x37924925#32

/-- A value clipped to the codes' range. -/
def clip (v : EReal) : EReal := min (Ideal.ofBits .f32 0x47600000#32) (max (Ideal.ofBits .f32 0xC7600000#32) v)

/-- The dequantised code at a row and a column, zero past the image's edge. -/
def A (co : Fin 4 → Fin 8 → Fin 1280 → EReal) (ws : Fin 1280 → EReal) (r j : ℕ) (n : Fin 1280) : EReal :=
  if h : r < 4 ∧ j < 8 then co ⟨r, h.1⟩ ⟨j, h.2⟩ n * ws n else 0

/-- One tap's contribution. -/
def T (a : ℕ → ℕ → Fin 1280 → EReal) (w : Fin 1280 → EReal) (r j : ℕ) : EReal := ∑ n, a r j n * w n

/-- An element of the input gradient before its scale: row `2 r + s`, column `2 j + t`. -/
def acc (a : ℕ → ℕ → Fin 1280 → EReal) (w : Fin 3 → Fin 3 → Fin 1280 → EReal) (s t r j : ℕ) : EReal :=
  if s = 1 then
    if t = 1 then T a (w 0 0) (r + 1) (j + 1) + T a (w 0 2) (r + 1) j + T a (w 2 0) r (j + 1) + T a (w 2 2) r j
    else T a (w 0 1) (r + 1) j + T a (w 2 1) r j
  else if t = 1 then T a (w 1 0) r (j + 1) + T a (w 1 2) r j
  else T a (w 1 1) r j

/-- A maximum over some of an image's indices that covers every element is the greatest magnitude. -/
theorem amax_eq {ι : Type} (S : Finset ι) (g : ι → EReal) (f : Fin 4 → Fin 8 → Fin 1280 → EReal)
    (h1 : ∀ i ∈ S, ∃ r j n, g i = max (f r j n) (-(f r j n))) (h2 : ∀ r j n, ∃ i ∈ S, g i = max (f r j n) (-(f r j n))) :
    S.fold max ⊥ g = amax f := by
  unfold amax
  apply le_antisymm
  · rw [Finset.fold_max_le]
    refine ⟨bot_le, fun i hi => ?_⟩
    obtain ⟨r, j, n, e⟩ := h1 i hi
    rw [e, Finset.le_fold_max]
    exact .inr ⟨(r, j, n), Finset.mem_univ _, le_rfl⟩
  · rw [Finset.fold_max_le]
    refine ⟨bot_le, fun t _ => ?_⟩
    obtain ⟨i, hi, e⟩ := h2 t.1 t.2.1 t.2.2
    rw [Finset.le_fold_max]
    exact .inr ⟨i, hi, e.ge⟩

/-- The factor is positive and real. -/
theorem factor : ∃ x : ℝ, 0 < x ∧ x ≤ 2 ^ (-15 : ℤ) ∧ Ideal.ofBits .f32 0x37924925#32 = (x : EReal) := by
  refine ⟨(9586981 : ℝ) * 2 ^ (-39 : ℤ), by positivity, by norm_num, ?_⟩
  simp [Ideal.ofBits, Ideal.ieee, -EReal.coe_mul]

/-- The scale's argument is not negative. -/
theorem X_nonneg (f : Fin 4 → Fin 8 → Fin 1280 → EReal) : 0 ≤ X f := by
  obtain ⟨x, hx, -, e⟩ := factor
  unfold X
  rw [e]
  refine mul_nonneg ?_ (EReal.coe_nonneg.mpr hx.le)
  unfold amax
  rw [Finset.le_fold_max]
  refine .inr ⟨(0, 0, 0), Finset.mem_univ _, ?_⟩
  simp only
  rcases le_total 0 (f 0 0 0) with h | h
  · exact le_max_of_le_left h
  · exact le_max_of_le_right (EReal.neg_nonneg.mpr h)

/-- The scale's argument is below `2 ^ 125` when every magnitude is at most `2 ^ 128`. -/
theorem X_lt (f : Fin 4 → Fin 8 → Fin 1280 → EReal) (h : ∀ r j n, max (f r j n) (-(f r j n)) ≤ (((2 : ℝ) ^ (128 : ℤ) : ℝ) : EReal)) :
    X f < Cert.Scale.thr 252#32 := by
  obtain ⟨x, hx, hx', e⟩ := factor
  have ha : amax f ≤ (((2 : ℝ) ^ (128 : ℤ) : ℝ) : EReal) := by
    unfold amax
    rw [Finset.fold_max_le]
    exact ⟨bot_le, fun t _ => h _ _ _⟩
  unfold X
  rw [e]
  calc amax f * (x : EReal) ≤ (((2 : ℝ) ^ (128 : ℤ) : ℝ) : EReal) * (x : EReal) := mul_le_mul_of_nonneg_right ha (EReal.coe_nonneg.mpr hx.le)
    _ ≤ (((2 : ℝ) ^ (128 : ℤ) : ℝ) : EReal) * (((2 : ℝ) ^ (-15 : ℤ) : ℝ) : EReal) :=
        mul_le_mul_of_nonneg_left (EReal.coe_le_coe_iff.mpr hx') (EReal.coe_nonneg.mpr (by positivity))
    _ < Cert.Scale.thr 252#32 := by
        rw [show (252#32 : BitVec 32) = BitVec.ofNat 32 252 from rfl, Cert.Scale.thr_pos 252 (by omega) (by omega), ← EReal.coe_mul,
          ← zpow_add₀ (by norm_num : (2 : ℝ) ≠ 0)]
        exact EReal.coe_lt_coe_iff.mpr (zpow_lt_zpow_right₀ (by norm_num) (by norm_num))

/-- The nine taps of a spread image, those that fall on a zero left out. -/
theorem acc_of_nine (a : ℕ → ℕ → Fin 1280 → EReal) (w : Fin 3 → Fin 3 → Fin 1280 → EReal) (s t r j : ℕ) (hs : s < 2) (ht : t < 2) :
    (if (2 * r + s) % 2 = 1 ∧ (2 * j + t) % 2 = 1 then T a (w 2 2) ((2 * r + s) / 2) ((2 * j + t) / 2) else 0)
      + (if (2 * r + s) % 2 = 1 ∧ (1 + (2 * j + t)) % 2 = 1 then T a (w 2 1) ((2 * r + s) / 2) ((1 + (2 * j + t)) / 2) else 0)
      + (if (2 * r + s) % 2 = 1 ∧ (2 + (2 * j + t)) % 2 = 1 then T a (w 2 0) ((2 * r + s) / 2) ((2 + (2 * j + t)) / 2) else 0)
      + (if (1 + (2 * r + s)) % 2 = 1 ∧ (2 * j + t) % 2 = 1 then T a (w 1 2) ((1 + (2 * r + s)) / 2) ((2 * j + t) / 2) else 0)
      + (if (1 + (2 * r + s)) % 2 = 1 ∧ (1 + (2 * j + t)) % 2 = 1 then T a (w 1 1) ((1 + (2 * r + s)) / 2) ((1 + (2 * j + t)) / 2) else 0)
      + (if (1 + (2 * r + s)) % 2 = 1 ∧ (2 + (2 * j + t)) % 2 = 1 then T a (w 1 0) ((1 + (2 * r + s)) / 2) ((2 + (2 * j + t)) / 2) else 0)
      + (if (2 + (2 * r + s)) % 2 = 1 ∧ (2 * j + t) % 2 = 1 then T a (w 0 2) ((2 + (2 * r + s)) / 2) ((2 * j + t) / 2) else 0)
      + (if (2 + (2 * r + s)) % 2 = 1 ∧ (1 + (2 * j + t)) % 2 = 1 then T a (w 0 1) ((2 + (2 * r + s)) / 2) ((1 + (2 * j + t)) / 2) else 0)
      + (if (2 + (2 * r + s)) % 2 = 1 ∧ (2 + (2 * j + t)) % 2 = 1 then T a (w 0 0) ((2 + (2 * r + s)) / 2) ((2 + (2 * j + t)) / 2) else 0)
      = acc a w s t r j := by
  unfold acc
  have d0 : ∀ k, (2 * k + 1) / 2 = k := by omega
  have d1 : ∀ k, (1 + 2 * k) / 2 = k := by omega
  have d2 : ∀ k, (2 + (2 * k + 1)) / 2 = k + 1 := by omega
  rcases (by omega : s = 0 ∨ s = 1) with rfl | rfl <;> rcases (by omega : t = 0 ∨ t = 1) with rfl | rfl <;>
    simp (disch := omega) only [if_pos, if_neg, add_zero, zero_add, d0, d1, d2] <;> ac_rfl

end Cert.Spec
-- ==== Proof.KernelQuant.lean ====
module

public import proofs.«01_k».proof.Proof.Gen.KernelIdeal.Skeleton
public import proofs.«01_k».proof.Proof.Spec

@[expose] public section

set_option maxRecDepth 16384

noncomputable section

/-! The kernel's quantiser, element by element: the scales, the codes and the shifted dequantised codes. -/

namespace Cert.KernelQuant

open Cert.KernelIdeal Cert.KernelIdeal.Gen Idealize.ShloMosaic

/-- One step of the search over a vector. -/
def vstep (x : FVec Ideal S1x1x1 .f32) (bit : BitVec 32) (b : IVec S1x1x1 32) : IVec S1x1x1 32 :=
  select (cmpf .oge x (bitcastToFloat .f32 (shli (addi b (broadcast S1x1x1 bit)) (broadcast S1x1x1 23#32))))
    (addi b (broadcast S1x1x1 bit)) b

/-- One step of the search, at its element. -/
theorem vstep_apply (x : FVec Ideal S1x1x1 .f32) (bit : BitVec 32) (b : IVec S1x1x1 32) :
    vstep x bit b (ix3 0 0 0) = Cert.Scale.step (x (ix3 0 0 0)) bit (b (ix3 0 0 0)) := by
  pointwise [vstep]
  rfl

/-- The biased exponent over a vector. -/
def vexpo (x : FVec Ideal S1x1x1 .f32) : IVec S1x1x1 32 :=
  vstep x 1#32 (vstep x 2#32 (vstep x 4#32 (vstep x 8#32 (vstep x 16#32 (vstep x 32#32 (vstep x 64#32 (vstep x 128#32 (broadcast S1x1x1 0#32))))))))

/-- The biased exponent, at its element. -/
theorem vexpo_apply (x : FVec Ideal S1x1x1 .f32) : vexpo x (ix3 0 0 0) = Cert.Scale.expo (x (ix3 0 0 0)) := by
  unfold vexpo
  simp only [vstep_apply]
  rfl

/-- The scale's exponent over a vector. -/
def vshift (b : IVec S1x1x1 32) : IVec S1x1x1 32 :=
  select (ori (cmpi .eq b (broadcast S1x1x1 0#32)) (cmpi .eq b (broadcast S1x1x1 255#32))) (broadcast S1x1x1 0#32)
    (subi b (broadcast S1x1x1 126#32))

/-- The scale's exponent, at its element. -/
theorem vshift_apply (b : IVec S1x1x1 32) : vshift b (ix3 0 0 0) = Cert.Scale.shifted (b (ix3 0 0 0)) := by
  pointwise [vshift]
  show (if (BitVec.ofBool (b (ix3 0 0 0) == 0#32) ||| BitVec.ofBool (b (ix3 0 0 0) == 255#32)) = 1#1 then 0#32 else b (ix3 0 0 0) - 126#32) = _
  unfold Cert.Scale.shifted
  by_cases h0 : b (ix3 0 0 0) = 0#32
  · simp [h0]
  · by_cases h1 : b (ix3 0 0 0) = 255#32
    · simp [h1]
    · have e0 : (b (ix3 0 0 0) == 0#32) = false := by simpa using h0
      have e1 : (b (ix3 0 0 0) == 255#32) = false := by simpa using h1
      rw [if_neg (by rw [e0, e1]; decide), if_neg (by tauto)]

variable (y : Vec Ideal S1x4x8x1280 .bf16)

/-- The image a slab holds. -/
def img (r : Fin 4) (j : Fin 8) (n : Fin 1280) : EReal := y (ix4 0 r j n)

/-- The first image's search. -/
theorem pay8_eq : k0_pay8 (F := Ideal) (k0_pay4 (k0_pay3 y)) (k0_pay5 (k0_pay3 y)) (k0_pay6 (k0_pay3 y)) k0_pay7 = vshift (vexpo (k0_pay4 (k0_pay3 y))) := rfl

/-- The second image's search. -/
theorem pay25_eq : k0_pay25 (F := Ideal) (k0_pay22 y) (k0_pay23 y) k0_pay24 = vshift (vexpo (k0_pay22 y)) := rfl

/-- Both images' greatest magnitude. -/
theorem pay22_eq : k0_pay22 (F := Ideal) y = k0_pay4 (k0_pay3 y) := rfl

/-- The scale's argument. -/
theorem pay4_apply : k0_pay4 (F := Ideal) (k0_pay3 y) (ix3 0 0 0) = Cert.Spec.X (img y) := by
  pointwise [k0_pay4, k0_pay3, k0_pay2]
  unfold Cert.Spec.X
  congr 1
  rw [show Ideal.ofBits FTy.f32 4286578688#32 = ⊥ by simp [Ideal.ofBits, Ideal.ieee]]
  refine Cert.Spec.amax_eq _ _ _ ?_ ?_
  · intro i _
    idx_vars i
    have : i0 = 0 := Subsingleton.elim _ _
    subst this
    exact ⟨i1, i2, i3, rfl⟩
  · intro r j n
    refine ⟨ix4 0 r j n, Finset.mem_filter.mpr ⟨Finset.mem_univ _, ?_⟩, rfl⟩
    funext a
    have ha : a = 0 := Subsingleton.elim (α := Fin 1) a 0
    subst ha
    apply Fin.ext
    rw [reduces_S1x4x8x1280_S1.drop_apply_val_of_eq _ 0 0]
    rfl

/-- The first image's scale. -/
theorem scale0 : k0_pay9 (F := Ideal) (k0_pay4 (k0_pay3 y)) (k0_pay5 (k0_pay3 y)) (k0_pay6 (k0_pay3 y)) k0_pay7 (ix3 0 0 0) = Cert.Scale.kscale (Cert.Spec.X (img y)) := by
  unfold k0_pay9
  rw [pay8_eq]
  pointwise
  rw [vshift_apply, vexpo_apply, pay4_apply]
  rfl

/-- The second image's scale. -/
theorem scale1 : k0_pay27 (F := Ideal) (k0_pay25 (k0_pay22 y) (k0_pay23 y) k0_pay24) (ix3 0 0 0) = Cert.Scale.kscale (Cert.Spec.X (img y)) := by
  rw [← scale0]
  unfold k0_pay9
  rw [pay25_eq, pay22_eq, pay8_eq]
  rfl

/-- The first image's codes. -/
theorem code0 (r : Fin 4) (j : Fin 8) (n : Fin 1280) :
    k0_pay10 (F := Ideal) (k0_pay2 y) (k0_pay4 (k0_pay3 y)) (k0_pay5 (k0_pay3 y)) (k0_pay6 (k0_pay3 y)) k0_pay7 (ix3 r j n)
      = Cert.Spec.clip (img y r j n * Cert.Scale.kinv (Cert.Spec.X (img y))) := by
  unfold k0_pay10
  rw [pay8_eq]
  pointwise [k0_pay2]
  rw [vshift_apply, vexpo_apply, pay4_apply]
  rfl

/-- The second image's codes are computed as the first's. -/
theorem code1_eq : k0_pay28 (F := Ideal) (k0_pay21 y) (k0_pay26 (k0_pay22 y) (k0_pay23 y) k0_pay24) 23#32
    = k0_pay10 (k0_pay2 y) (k0_pay4 (k0_pay3 y)) (k0_pay5 (k0_pay3 y)) (k0_pay6 (k0_pay3 y)) k0_pay7 := by
  unfold k0_pay10 k0_pay28 k0_pay26
  rw [pay25_eq, pay22_eq, pay8_eq]
  rfl

/-- The dequantised codes that a shift of `u` rows and `v` columns reads. -/
def shiftA (q : FVec Ideal S4x8x1280 .fp8e5m2) (w : FVec Ideal S1x1x1280 .f32) (u v : ℕ) (i : Fin 32) (n : Fin 1280) : EReal :=
  Cert.Spec.A (fun r j n => q (ix3 r j n)) (fun n => w (ix3 0 0 n)) (i.val / 8 + u) (i.val % 8 + v) n

variable (q : FVec Ideal S4x8x1280 .fp8e5m2) (w : FVec Ideal S1x1x1280 .f32) (i : Fin 32) (n : Fin 1280)

/-- The columns' numbers. -/
abbrev cols : IVec S4x8x1280 32 := iota Kind.tc S4x8x1280 32 [1] iota_S4x8x1280_d1_w32

/-- A select on the last column. -/
theorem select_col (k : ℕ) (hk : k < 8) (a b : EReal) :
    Scalar.select (IntOp.cmpi CmpIPredicate.eq (BitVec.ofNat 32 k) 7#32) a b = if k < 7 then b else a := by
  have h : IntOp.cmpi CmpIPredicate.eq (BitVec.ofNat 32 k) 7#32 = if k < 7 then 0#1 else 1#1 := by
    interval_cases k <;> rfl
  rw [h]
  unfold Scalar.select
  split_ifs <;> first | rfl | (exfalso; revert ‹_›; decide)

/-- The unshifted codes. -/
theorem lhs00 : k0_pay16 (F := Ideal) w q (ix5 0 0 0 i n) = shiftA q w 0 0 i n := by
  pointwise [k0_pay16, k0_pay13]
  unfold shiftA Cert.Spec.A
  rw [dif_pos (by omega)]
  rfl

/-- The codes a row below. -/
theorem lhs10 : k0_pay17 (F := Ideal) w q (ix5 0 0 0 i n) = shiftA q w 1 0 i n := by
  pointwise [k0_pay17, k0_pay13, k0_pay15]
  unfold shiftA Cert.Spec.A
  split_ifs with h h' h'
  · rw [show (⟨1 + i.val / 8, by omega⟩ : Fin 4) = ⟨i.val / 8 + 1, h'.1⟩ from Fin.ext (Nat.add_comm _ _)]
    rfl
  · omega
  · omega
  · rfl

/-- The dequantised codes a column to the right, by row and column. -/
theorem pay14_apply (r : Fin 4) (j : Fin 8) :
    k0_pay14 (F := Ideal) w cols q (ix3 r j n) = Cert.Spec.A (fun r j n => q (ix3 r j n)) (fun n => w (ix3 0 0 n)) r.val (j.val + 1) n := by
  pointwise [k0_pay14, k0_pay13]
  rw [select_col _ (by omega)]
  unfold Cert.Spec.A
  by_cases h : j.val < 7
  · rw [if_pos h, dif_pos h, dif_pos ⟨r.isLt, by omega⟩,
      show (⟨1 + j.val, by omega⟩ : Fin 8) = ⟨j.val + 1, by omega⟩ from Fin.ext (Nat.add_comm _ _)]
  · rw [if_neg h, dif_neg (by omega)]

/-- The codes a column to the right. -/
theorem lhs01 : k0_pay19 (F := Ideal) w cols q (ix5 0 0 0 i n) = shiftA q w 0 1 i n := by
  pointwise [k0_pay19]
  exact pay14_apply _ _ _ _ _

/-- The codes a row below and a column to the right. -/
theorem lhs11 : k0_pay20 (F := Ideal) (k0_pay18 w cols q) (ix5 0 0 0 i n) = shiftA q w 1 1 i n := by
  have hk := pay14_apply q w n
  pointwise [k0_pay20, k0_pay18, k0_pay15]
  unfold shiftA
  split_ifs with h
  · refine (hk _ _).trans ?_
    simp only [Nat.add_comm 1]
  · unfold Cert.Spec.A
    rw [dif_neg (by omega)]

variable (f : FVec Ideal S4x8x1280 .f32) (e : IVec S1x1x1 32) (d : BitVec 32)

/-- The second image's shifts are the first's. -/
theorem lhs00' : k0_pay34 (F := Ideal) w f e d = k0_pay16 w (k0_pay28 f e d) := rfl
/-- The second image's shifts are the first's. -/
theorem lhs10' : k0_pay36 (k0_pay35 (F := Ideal) w f e d) = k0_pay17 w (k0_pay28 f e d) := rfl
/-- The second image's shifts are the first's. -/
theorem lhs01' : k0_pay37 (F := Ideal) (k0_pay32 w cols f e d) = k0_pay19 w cols (k0_pay28 f e d) := rfl
/-- The second image's shifts are the first's. -/
theorem lhs11' : k0_pay38 (F := Ideal) (k0_pay32 w cols f e d) k0_pay33 = k0_pay20 (k0_pay18 w cols (k0_pay28 f e d)) := rfl

end Cert.KernelQuant
-- ==== Proof.KernelDots.lean ====
module

public import proofs.«01_k».proof.Proof.KernelQuant
public import proofs.«01_k».proof.Proof.KernelIdealBody
public import Idealize.ShloMosaic.Lib.Pipeline.ValueKit

@[expose] public section

set_option maxRecDepth 16384

noncomputable section

/-! The kernel's stores, element by element: the shifted dequantised codes, the products with the weights' taps and the
    interleaved rows of the input gradient. -/

namespace Cert.KernelDots

open Cert.KernelIdeal Cert.KernelIdeal.Gen Cert.KernelIdeal.Hand Idealize.ShloMosaic Idealize.ShloMosaic.TcCoe
open Cert.KernelQuant (shiftA cols)

/-! ## One row of one image -/

/-- A product of shifted codes with a tap's weights. -/
def dotp (L : Vec Ideal S1x1x2x32x1280 .bf16) (W : Vec Ideal S1x1280x512 .fp8e4m3) : FVec Ideal S64x512 .f32 :=
  matmul (φ₁ := .bf16) (φ₂ := .fp8e4m3) dot_S64x1280_S1280x512_S64x512_1_0_0_1_n_n none
    (shapeCast S64x1280 (shapeCast S2x32x1280 L shapeCasts_S1x1x2x32x1280_S2x32x1280) shapeCasts_S2x32x1280_S64x1280)
    (shapeCast S1280x512 W shapeCasts_S1x1280x512_S1280x512) (constant S64x512 .f32 0x00000000#32)

/-- A product of shifted codes with a tap's weights, at an element. -/
theorem dotp_apply (L : Vec Ideal S1x1x2x32x1280 .bf16) (W : Vec Ideal S1x1280x512 .fp8e4m3) (i : Fin 64) (o : Fin 512) :
    dotp L W (ix2 i o) = ∑ n, (L (ix5 0 0 ⟨i.val / 32, by omega⟩ ⟨i.val % 32, by omega⟩ n) * W (ix3 0 n o) : EReal) := by
  pointwise [dotp]

/-- One image's part of an accumulator, scaled. -/
def half (b : ℕ) (h : S2x4x8x512.Slices ![b, 0, 0, 0] S1x4x8x512) (sc : FVec Ideal S1x1x1 .f32) (x : FVec Ideal S64x512 .f32) : FVec Ideal S4x8x512 .bf16 :=
  truncf .bf16 (mulf (shapeCast S4x8x512 (extractStridedSlice S1x4x8x512 ![b, 0, 0, 0] (shapeCast S2x4x8x512 x shapeCasts_S64x512_S2x4x8x512) h)
    shapeCasts_S1x4x8x512_S4x8x512) (broadcastTo S4x8x512 sc broadcasts_S1x1x1_S4x8x512)) bitsLt_bf16_f32

/-- One row of an image, its even and odd columns interleaved. -/
def row (r : ℕ) (h : S4x8x512.Slices ![r, 0, 0] S1x8x512) (lo hi : FVec Ideal S4x8x512 .bf16) : FVec Ideal S1x1x1x16x512 .bf16 :=
  shapeCast S1x1x1x16x512 (interleaveRows S16x512
    (shapeCast S8x512 (extractStridedSlice S1x8x512 ![r, 0, 0] lo h) shapeCasts_S1x8x512_S8x512)
    (shapeCast S8x512 (extractStridedSlice S1x8x512 ![r, 0, 0] hi h) shapeCasts_S1x8x512_S8x512)
    bitcasts_S16x512_w16_S8x512_w32) shapeCasts_S16x512_S1x1x1x16x512

/-- One image's part of an accumulator, scaled, at an element. -/
theorem half_apply (b : Fin 2) (h : S2x4x8x512.Slices ![b.val, 0, 0, 0] S1x4x8x512) (sc : FVec Ideal S1x1x1 .f32) (x : FVec Ideal S64x512 .f32)
    (r : Fin 4) (j : Fin 8) (o : Fin 512) :
    half b.val h sc x (ix3 r j o) = (x (ix2 ⟨32 * b.val + (8 * r.val + j.val), by omega⟩ o) * sc (ix3 0 0 0) : EReal) := by
  pointwise [half]
  rw [show (⟨32 * b.val + (8 * r.val + j.val), by omega⟩ : Fin 64) = ⟨b.val * 32 + r.val * 8 + j.val, by omega⟩ from Fin.ext (by simp only; omega)]

/-- One row of an image, at an element. -/
theorem row_apply (r : Fin 4) (h : S4x8x512.Slices ![r.val, 0, 0] S1x8x512) (lo hi : FVec Ideal S4x8x512 .bf16) (l : Fin 16) (o : Fin 512) :
    row r.val h lo hi (ix5 0 0 0 l o) = if l.val % 2 = 0 then lo (ix3 r ⟨l.val / 2, by omega⟩ o) else hi (ix3 r ⟨l.val / 2, by omega⟩ o) := by
  pointwise [row]

/-- One image's part of an accumulator lies in it. -/
theorem inbHalf (b : ℕ) (h : b < 2) : S2x4x8x512.Slices ![b, 0, 0, 0] S1x4x8x512 := by
  interval_cases b
  · exact slices_S2x4x8x512_o0_0_0_0_S1x4x8x512
  · exact slices_S2x4x8x512_o1_0_0_0_S1x4x8x512

/-- A row lies in its image. -/
theorem inbRow (r : ℕ) (h : r < 4) : S4x8x512.Slices ![r, 0, 0] S1x8x512 := by
  interval_cases r
  · exact slices_S4x8x512_o0_0_0_S1x8x512
  · exact slices_S4x8x512_o1_0_0_S1x8x512
  · exact slices_S4x8x512_o2_0_0_S1x8x512
  · exact slices_S4x8x512_o3_0_0_S1x8x512

/-- A stored row lies in the input gradient's scratch. -/
theorem inbO (b r s off : ℕ) (hb : b < 2) (hr : r < 4) (hs : s < 2) (ho : off + 512 ≤ 2560) :
    ∀ a, (![b, r, s, 0, off] : Fin 5 → ℕ) a + S1x1x1x16x512.size a ≤ S2x4x2x16x2560.size a := by
  intro a
  fin_cases a <;> simp [S1x1x1x16x512, S2x4x2x16x2560] <;> omega

/-- One stored row. -/
def piece (s off : ℕ) (hs : s < 2) (ho : off + 512 ≤ 2560) (sc : FVec Ideal S1x1x1 .f32) (lo hi : FVec Ideal S64x512 .f32) (b r : ℕ) (hb : b < 2) (hr : r < 4) :
    View.Piece (Elt Ideal) S2x4x2x16x2560 .bf16 :=
  ⟨Rect.unit ![b, r, s, 0, off] S1x1x1x16x512.size (inbO b r s off hb hr hs ho),
    row r (inbRow r hr) (half b (inbHalf b hb) sc lo) (half b (inbHalf b hb) sc hi)⟩

/-- The eight rows that fill a window, newest first. -/
def pieces (s off : ℕ) (hs : s < 2) (ho : off + 512 ≤ 2560) (sc0 sc1 : FVec Ideal S1x1x1 .f32) (lo hi : FVec Ideal S64x512 .f32) :
    List (View.Piece (Elt Ideal) S2x4x2x16x2560 .bf16) :=
  [piece s off hs ho sc1 lo hi 1 3 (by decide) (by decide), piece s off hs ho sc1 lo hi 1 2 (by decide) (by decide),
   piece s off hs ho sc1 lo hi 1 1 (by decide) (by decide), piece s off hs ho sc1 lo hi 1 0 (by decide) (by decide),
   piece s off hs ho sc0 lo hi 0 3 (by decide) (by decide), piece s off hs ho sc0 lo hi 0 2 (by decide) (by decide),
   piece s off hs ho sc0 lo hi 0 1 (by decide) (by decide), piece s off hs ho sc0 lo hi 0 0 (by decide) (by decide)]

/-- An element of the input gradient by its row's and column's parities. -/
def D (A : Fin 2 → ℕ → ℕ → Fin 1280 → EReal) (w : Vec Ideal S9x1280x2560 .fp8e4m3) (sc : Fin 2 → EReal) (b : Fin 2) (r s l : ℕ) (o : Fin 2560) : EReal :=
  Cert.Spec.acc (A b) (fun p q n => w (ix3 ⟨3 * p.val + q.val, by omega⟩ n o)) s (l % 2) r (l / 2) * sc b

/-- A stored row holds its part of the input gradient. -/
theorem piece_apply (A : Fin 2 → ℕ → ℕ → Fin 1280 → EReal) (w : Vec Ideal S9x1280x2560 .fp8e4m3) (sv : Fin 2 → EReal)
    (s off : ℕ) (hs : s < 2) (ho : off + 512 ≤ 2560) (sc : FVec Ideal S1x1x1 .f32) (lo hi : FVec Ideal S64x512 .f32) (b : Fin 2) (r : Fin 4)
    (hsc : sc (ix3 0 0 0) = sv b)
    (hlo : ∀ (i : Fin 32) (o : Fin 512), lo (ix2 ⟨32 * b.val + i.val, by omega⟩ o)
      = Cert.Spec.acc (A b) (fun p q n => w (ix3 ⟨3 * p.val + q.val, by omega⟩ n ⟨off + o.val, by omega⟩)) s 0 (i.val / 8) (i.val % 8))
    (hhi : ∀ (i : Fin 32) (o : Fin 512), hi (ix2 ⟨32 * b.val + i.val, by omega⟩ o)
      = Cert.Spec.acc (A b) (fun p q n => w (ix3 ⟨3 * p.val + q.val, by omega⟩ n ⟨off + o.val, by omega⟩)) s 1 (i.val / 8) (i.val % 8))
    (x : S1x1x1x16x512.Idx) :
    (piece s off hs ho sc lo hi b.val r.val b.isLt r.isLt).2 x
      = (fun i : S2x4x2x16x2560.Idx => D A w sv (i 0) (i 1).val (i 2).val (i 3).val (i 4)) ((piece s off hs ho sc lo hi b.val r.val b.isLt r.isLt).1.emb x) := by
  idx_vars x
  have h0 : x0 = 0 := Subsingleton.elim _ _
  have h1 : x1 = 0 := Subsingleton.elim _ _
  have h2 : x2 = 0 := Subsingleton.elim _ _
  subst h0 h1 h2
  have e : (piece s off hs ho sc lo hi b.val r.val b.isLt r.isLt).1.emb (ix5 0 0 0 x3 x4) = (ix5 b r ⟨s, hs⟩ x3 ⟨off + x4.val, by omega⟩ : S2x4x2x16x2560.Idx) := by
    funext a
    apply Fin.ext
    refine (Idealize.ShloMosaic.ValueKit.rect_emb_unit_val _ _ (inbO b.val r.val s off b.isLt r.isLt hs ho) _ a).trans ?_
    fin_cases a <;> simp
  rw [e]
  show row r.val _ _ _ (ix5 0 0 0 x3 x4) = D A w sv b r.val s x3.val ⟨off + x4.val, _⟩
  rw [row_apply, half_apply, half_apply, hsc]
  unfold D
  have d1 : (8 * r.val + x3.val / 2) / 8 = r.val := by omega
  have d2 : (8 * r.val + x3.val / 2) % 8 = x3.val / 2 := by omega
  have k0 := hlo ⟨8 * r.val + x3.val / 2, by omega⟩ x4
  have k1 := hhi ⟨8 * r.val + x3.val / 2, by omega⟩ x4
  simp only [d1, d2] at k0 k1
  split_ifs with h
  · rw [h, ← k0]
  · rw [show x3.val % 2 = 1 by omega, ← k1]

/-- The eight rows that fill a window hold their parts of the input gradient. -/
theorem pieces_apply (A : Fin 2 → ℕ → ℕ → Fin 1280 → EReal) (w : Vec Ideal S9x1280x2560 .fp8e4m3) (sv : Fin 2 → EReal)
    (s off : ℕ) (hs : s < 2) (ho : off + 512 ≤ 2560) (sc0 sc1 : FVec Ideal S1x1x1 .f32) (lo hi : FVec Ideal S64x512 .f32)
    (hsc0 : sc0 (ix3 0 0 0) = sv 0) (hsc1 : sc1 (ix3 0 0 0) = sv 1)
    (hlo : ∀ (b : Fin 2) (i : Fin 32) (o : Fin 512), lo (ix2 ⟨32 * b.val + i.val, by omega⟩ o)
      = Cert.Spec.acc (A b) (fun p q n => w (ix3 ⟨3 * p.val + q.val, by omega⟩ n ⟨off + o.val, by omega⟩)) s 0 (i.val / 8) (i.val % 8))
    (hhi : ∀ (b : Fin 2) (i : Fin 32) (o : Fin 512), hi (ix2 ⟨32 * b.val + i.val, by omega⟩ o)
      = Cert.Spec.acc (A b) (fun p q n => w (ix3 ⟨3 * p.val + q.val, by omega⟩ n ⟨off + o.val, by omega⟩)) s 1 (i.val / 8) (i.val % 8)) :
    ∀ p ∈ pieces s off hs ho sc0 sc1 lo hi, ∀ x : p.1.shape.Idx,
      p.2 x = (fun i : S2x4x2x16x2560.Idx => D A w sv (i 0) (i 1).val (i 2).val (i 3).val (i 4)) (p.1.emb x) := by
  have h0 := fun r => piece_apply A w sv s off hs ho sc0 lo hi 0 r hsc0 (hlo 0) (hhi 0)
  have h1 := fun r => piece_apply A w sv s off hs ho sc1 lo hi 1 r hsc1 (hlo 1) (hhi 1)
  unfold pieces
  simp only [List.forall_mem_cons]
  exact ⟨h1 3, h1 2, h1 1, h1 0, h0 3, h0 2, h0 1, h0 0, fun _ h => absurd h List.not_mem_nil⟩

/-- Each row of each image is among the eight. -/
theorem pieces_mem (s off : ℕ) (hs : s < 2) (ho : off + 512 ≤ 2560) (sc0 sc1 : FVec Ideal S1x1x1 .f32) (lo hi : FVec Ideal S64x512 .f32) (b : Fin 2) (r : Fin 4) :
    ∃ sc, piece s off hs ho sc lo hi b.val r.val b.isLt r.isLt ∈ pieces s off hs ho sc0 sc1 lo hi := by
  unfold pieces
  match b, r with
  | 1, 3 => exact ⟨sc1, .head _⟩
  | 1, 2 => exact ⟨sc1, .tail _ (.head _)⟩
  | 1, 1 => exact ⟨sc1, .tail _ (.tail _ (.head _))⟩
  | 1, 0 => exact ⟨sc1, .tail _ (.tail _ (.tail _ (.head _)))⟩
  | 0, 3 => exact ⟨sc0, .tail _ (.tail _ (.tail _ (.tail _ (.head _))))⟩
  | 0, 2 => exact ⟨sc0, .tail _ (.tail _ (.tail _ (.tail _ (.tail _ (.head _)))))⟩
  | 0, 1 => exact ⟨sc0, .tail _ (.tail _ (.tail _ (.tail _ (.tail _ (.tail _ (.head _))))))⟩
  | 0, 0 => exact ⟨sc0, .tail _ (.tail _ (.tail _ (.tail _ (.tail _ (.tail _ (.tail _ (.head _)))))))⟩

/-- The eight rows fill the window. -/
theorem pieces_cover (s off : ℕ) (hs : s < 2) (ho : off + 512 ≤ 2560) (sc0 sc1 : FVec Ideal S1x1x1 .f32) (lo hi : FVec Ideal S64x512 .f32)
    (y : S2x4x2x16x2560.Idx) (h2 : (y 2).val = s) (h4 : off ≤ (y 4).val) (h4' : (y 4).val < off + 512) :
    ∃ p ∈ pieces s off hs ho sc0 sc1 lo hi, y ∈ p.1.set := by
  idx_vars y
  obtain ⟨sc, hm⟩ := pieces_mem s off hs ho sc0 sc1 lo hi y0 y1
  refine ⟨_, hm, ?_⟩
  refine (Rect.mem_set_unit (s := S2x4x2x16x2560) (inb := inbO y0.val y1.val s off y0.isLt y1.isLt hs ho)).mpr fun a => ?_
  change y2.val = s at h2
  change off ≤ y4.val at h4
  change y4.val < off + 512 at h4'
  fin_cases a <;> simp [S1x1x1x16x512] <;> omega

/-! ## The operands of the products -/

/-- An element of a tap's weights. -/
theorem emb_tap (tap : Fin 9) (off : ℕ) (ho : off + 512 ≤ 2560)
    (inb : ∀ a, (![tap.val, 0, off] : Fin 3 → ℕ) a + S1x1280x512.size a ≤ S9x1280x2560.size a) (n : Fin 1280) (o : Fin 512) :
    (Rect.unit ![tap.val, 0, off] S1x1280x512.size inb : Rect S9x1280x2560).emb (ix3 0 n o) = (ix3 tap n ⟨off + o.val, by omega⟩ : S9x1280x2560.Idx) := by
  funext a
  apply Fin.ext
  refine (Idealize.ShloMosaic.ValueKit.rect_emb_unit_val _ _ _ _ a).trans ?_
  fin_cases a <;> simp

/-- A tap's weights, fetched and loaded. -/
theorem wload (c : Dev nD) (w : BufOf (F := Ideal) c mWh) (s2 : BufOf (F := Ideal) c mW) (tap : Fin 9) (off : ℕ) (ho : off + 512 ≤ 2560)
    (inb : ∀ a, (![tap.val, 0, off] : Fin 3 → ℕ) a + S1x1280x512.size a ≤ S9x1280x2560.size a) (h1 h2 h3 h4)
    (n : Fin 1280) (o : Fin 512) :
    View.readAt (Elt Ideal) mW.view (Rect.unit ![tap.val, 0, off] S1x1280x512.size inb : Rect S9x1280x2560).toLoadRect
      (View.write (Elt Ideal) ((mW.slice (Rect.unit ![tap.val, 0, off] S1x1280x512.size inb) h1).squeeze S1280x512 h2).view s2
        (ReadAs.same.apply (View.read (Elt Ideal) ((mWh.slice (Rect.unit ![tap.val, 0, off] S1x1280x512.size inb) h3).squeeze S1280x512 h4).view w)) Finset.univ)
      (ix3 0 n o)
    = w (ix3 tap n ⟨off + o.val, by omega⟩) := by
  have e := emb_tap tap off ho inb n o
  obtain ⟨y, hy⟩ : ∃ y : S1280x512.Idx, Shape.reshapeEquiv h2.numel_eq y = ix3 0 n o := ⟨_, Equiv.apply_symm_apply _ _⟩
  have k := View.write_emb_of_mem (v := ((mW.slice (Rect.unit ![tap.val, 0, off] S1x1280x512.size inb) h1).squeeze S1280x512 h2).view) (Val := Elt Ideal) s2
    (ReadAs.same.apply (View.read (Elt Ideal) ((mWh.slice (Rect.unit ![tap.val, 0, off] S1x1280x512.size inb) h3).squeeze S1280x512 h4).view w))
    (Finset.mem_univ y)
  have e2 : ((mW.slice (Rect.unit ![tap.val, 0, off] S1x1280x512.size inb) h1).squeeze S1280x512 h2).view.emb y = (ix3 tap n ⟨off + o.val, by omega⟩ : S9x1280x2560.Idx) := by
    refine Eq.trans ?_ e
    rw [← hy]; rfl
  have e3 : ((mWh.slice (Rect.unit ![tap.val, 0, off] S1x1280x512.size inb) h3).squeeze S1280x512 h4).view.emb y = (ix3 tap n ⟨off + o.val, by omega⟩ : S9x1280x2560.Idx) := by
    refine Eq.trans ?_ e
    rw [← hy]; rfl
  rw [e2] at k
  refine Eq.trans ?_ (k.trans (congrArg w e3))
  exact congrArg _ e

/-- The shifted codes. -/
def LA (q : Fin 2 → FVec Ideal S4x8x1280 .fp8e5m2) (wv : FVec Ideal S1x1x1280 .f32) (i : S2x2x2x32x1280.Idx) : EReal :=
  shiftA (q (i 2)) wv (i 0).val (i 1).val (i 3) (i 4)

/-- A block of stored shifted codes holds its part of them. -/
theorem lhs_piece (q : Fin 2 → FVec Ideal S4x8x1280 .fp8e5m2) (wv : FVec Ideal S1x1x1280 .f32) (u v b : Fin 2)
    (inb : ∀ a, (![u.val, v.val, b.val, 0, 0] : Fin 5 → ℕ) a + S1x1x1x32x1280.size a ≤ S2x2x2x32x1280.size a)
    (p : Vec Ideal S1x1x1x32x1280 .bf16) (h : ∀ i n, p (ix5 0 0 0 i n) = shiftA (q b) wv u.val v.val i n) (x : S1x1x1x32x1280.Idx) :
    p x = LA q wv ((Rect.unit ![u.val, v.val, b.val, 0, 0] S1x1x1x32x1280.size inb : Rect S2x2x2x32x1280).emb x) := by
  idx_vars x
  have h0 : x0 = 0 := Subsingleton.elim _ _
  have h1 : x1 = 0 := Subsingleton.elim _ _
  have h2 : x2 = 0 := Subsingleton.elim _ _
  subst h0 h1 h2
  have e : (Rect.unit ![u.val, v.val, b.val, 0, 0] S1x1x1x32x1280.size inb : Rect S2x2x2x32x1280).emb (ix5 0 0 0 x3 x4) = (ix5 u v b x3 x4 : S2x2x2x32x1280.Idx) := by
    funext a
    apply Fin.ext
    refine (Idealize.ShloMosaic.ValueKit.rect_emb_unit_val _ _ _ _ a).trans ?_
    fin_cases a <;> simp
  rw [e, h]
  rfl

/-- The eight blocks hold the shifted codes. -/
theorem Hl_apply (c : Dev nD) (dy : BufOf (F := Ideal) c mDy) (ws : BufOf (F := Ideal) c mWs) (s0 : BufOf (F := Ideal) c mS0) (s1 : BufOf (F := Ideal) c mS1)
    (q : Fin 2 → FVec Ideal S4x8x1280 .fp8e5m2) (h0 : q 0 = kernelRun.sl.v374 c dy s0)
    (h1 : q 1 = k0_pay28 (kernelRun.sl.v417 c dy s0) (kernelRun.sl.v493 c dy s0) 23#32) :
    ∀ p ∈ kernelRun.sl.Hl_8 c dy ws s0 s1, ∀ x : p.1.shape.Idx, p.2 x = LA q (kernelRun.sl.v279 c ws s1) (p.1.emb x) := by
  unfold kernelRun.sl.Hl_8 kernelRun.sl.Hl_5 kernelRun.sl.Hl_4 kernelRun.sl.Hl_2
  simp only [List.forall_mem_cons]
  refine ⟨?_, ?_, ?_, ?_, ?_, ?_, ?_, ?_, fun _ h => absurd h List.not_mem_nil⟩
  · exact lhs_piece q _ 1 1 1 _ _ fun i n => by rw [h1]; exact Cert.KernelQuant.lhs11 _ _ _ _
  · exact lhs_piece q _ 0 1 1 _ _ fun i n => by rw [h1]; exact Cert.KernelQuant.lhs01 _ _ _ _
  · exact lhs_piece q _ 1 0 1 _ _ fun i n => by rw [h1]; exact Cert.KernelQuant.lhs10 _ _ _ _
  · exact lhs_piece q _ 0 0 1 _ _ fun i n => by rw [h1]; exact Cert.KernelQuant.lhs00 _ _ _ _
  · exact lhs_piece q _ 1 1 0 _ _ fun i n => by rw [h0]; exact Cert.KernelQuant.lhs11 _ _ _ _
  · exact lhs_piece q _ 0 1 0 _ _ fun i n => by rw [h0]; exact Cert.KernelQuant.lhs01 _ _ _ _
  · exact lhs_piece q _ 1 0 0 _ _ fun i n => by rw [h0]; exact Cert.KernelQuant.lhs10 _ _ _ _
  · exact lhs_piece q _ 0 0 0 _ _ fun i n => by rw [h0]; exact Cert.KernelQuant.lhs00 _ _ _ _

/-- The eight blocks fill the scratch. -/
theorem Hl_cover (c : Dev nD) (dy : BufOf (F := Ideal) c mDy) (ws : BufOf (F := Ideal) c mWs) (s0 : BufOf (F := Ideal) c mS0) (s1 : BufOf (F := Ideal) c mS1)
    (u v b : Fin 2) (i : Fin 32) (n : Fin 1280) : ∃ p ∈ kernelRun.sl.Hl_8 c dy ws s0 s1, (ix5 u v b i n : S2x2x2x32x1280.Idx) ∈ p.1.set := by
  have key : ∀ inb, (ix5 u v b i n : S2x2x2x32x1280.Idx) ∈ (Rect.unit ![u.val, v.val, b.val, 0, 0] S1x1x1x32x1280.size inb : Rect S2x2x2x32x1280).set := by
    intro inb
    refine (Rect.mem_set_unit (s := S2x2x2x32x1280)).mpr fun a => ?_
    fin_cases a <;> simp [S1x1x1x32x1280]
  unfold kernelRun.sl.Hl_8 kernelRun.sl.Hl_5 kernelRun.sl.Hl_4 kernelRun.sl.Hl_2
  simp only [List.exists_mem_cons_iff]
  match u, v, b, key with
  | 1, 1, 1, key => exact .inl (key _)
  | 0, 1, 1, key => exact .inr (.inl (key _))
  | 1, 0, 1, key => exact .inr (.inr (.inl (key _)))
  | 0, 0, 1, key => exact .inr (.inr (.inr (.inl (key _))))
  | 1, 1, 0, key => exact .inr (.inr (.inr (.inr (.inl (key _)))))
  | 0, 1, 0, key => exact .inr (.inr (.inr (.inr (.inr (.inl (key _))))))
  | 1, 0, 0, key => exact .inr (.inr (.inr (.inr (.inr (.inr (.inl (key _)))))))
  | 0, 0, 0, key => exact .inr (.inr (.inr (.inr (.inr (.inr (.inr (.inl (key _))))))))

/-- The shifted codes, loaded. -/
theorem lload (c : Dev nD) (dy : BufOf (F := Ideal) c mDy) (ws : BufOf (F := Ideal) c mWs) (s0 : BufOf (F := Ideal) c mS0) (s1 : BufOf (F := Ideal) c mS1)
    (q : Fin 2 → FVec Ideal S4x8x1280 .fp8e5m2) (h0 : q 0 = kernelRun.sl.v374 c dy s0)
    (h1 : q 1 = k0_pay28 (kernelRun.sl.v417 c dy s0) (kernelRun.sl.v493 c dy s0) 23#32) (u v : Fin 2)
    (inb : ∀ a, (![u.val, v.val, 0, 0, 0] : Fin 5 → ℕ) a + S1x1x2x32x1280.size a ≤ S2x2x2x32x1280.size a) (b : Fin 2) (i : Fin 32) (n : Fin 1280) :
    mS3.view.readCov (Val := Elt Ideal) (kernelRun.sl.Hl_8 c dy ws s0 s1) (Rect.unit ![u.val, v.val, 0, 0, 0] S1x1x2x32x1280.size inb : Rect S2x2x2x32x1280).toLoadRect (ix5 0 0 b i n)
      = shiftA (q b) (kernelRun.sl.v279 c ws s1) u.val v.val i n := by
  have e : (Rect.unit ![u.val, v.val, 0, 0, 0] S1x1x2x32x1280.size inb : Rect S2x2x2x32x1280).toLoadRect.idx (ix5 0 0 b i n) = (ix5 u v b i n : S2x2x2x32x1280.Idx) := by
    funext a
    apply Fin.ext
    refine (Idealize.ShloMosaic.ValueKit.rect_emb_unit_val _ _ _ _ a).trans ?_
    fin_cases a <;> simp
  rw [View.readCov_eq_canon']
  refine (congrArg _ e).trans ?_
  exact View.canon_apply_of_pieces (LA q (kernelRun.sl.v279 c ws s1)) _ (Hl_apply c dy ws s0 s1 q h0 h1) _ (Hl_cover c dy ws s0 s1 u v b i n)

end Cert.KernelDots
-- ==== Proof.KernelPieces.lean ====
module

public import proofs.«01_k».proof.Proof.KernelDots

@[expose] public section

set_option maxRecDepth 16384

noncomputable section

/-! The ten windows of the input gradient, and what the kernel leaves in its results. -/

namespace Cert.KernelPieces

open Cert.KernelIdeal Cert.KernelIdeal.Gen Cert.KernelIdeal.Hand Idealize.ShloMosaic Idealize.ShloMosaic.TcCoe
open Cert.KernelQuant (shiftA)
open Cert.KernelDots

/-! ## The sums of products -/

/-- Odd rows, odd columns: four products. -/
def hi1 (L11 L10 L01 L00 : Vec Ideal S1x1x2x32x1280 .bf16) (W0 W2 W6 W8 : Vec Ideal S1x1280x512 .fp8e4m3) : FVec Ideal S64x512 .f32 :=
  addf (addf (addf (dotp L11 W0) (dotp L10 W2)) (dotp L01 W6)) (dotp L00 W8)
/-- Odd rows, even columns: two products. -/
def lo1 (L10 L00 : Vec Ideal S1x1x2x32x1280 .bf16) (W1 W7 : Vec Ideal S1x1280x512 .fp8e4m3) : FVec Ideal S64x512 .f32 :=
  addf (dotp L10 W1) (dotp L00 W7)
/-- Even rows, odd columns: two products. -/
def hi0 (L01 L00 : Vec Ideal S1x1x2x32x1280 .bf16) (W3 W5 : Vec Ideal S1x1280x512 .fp8e4m3) : FVec Ideal S64x512 .f32 :=
  addf (dotp L01 W3) (dotp L00 W5)
/-- Even rows, even columns: one product. -/
def lo0 (L00 : Vec Ideal S1x1x2x32x1280 .bf16) (W4 : Vec Ideal S1x1280x512 .fp8e4m3) : FVec Ideal S64x512 .f32 :=
  dotp L00 W4

/-- The dequantised codes of an image. -/
def AA (q : Fin 2 → FVec Ideal S4x8x1280 .fp8e5m2) (wv : FVec Ideal S1x1x1280 .f32) (b : Fin 2) : ℕ → ℕ → Fin 1280 → EReal :=
  Cert.Spec.A (fun r j n => q b (ix3 r j n)) (fun n => wv (ix3 0 0 n))

/-- `L` is the codes shifted by `u` rows and `v` columns. -/
def IsL (q : Fin 2 → FVec Ideal S4x8x1280 .fp8e5m2) (wv : FVec Ideal S1x1x1280 .f32) (u v : ℕ) (L : Vec Ideal S1x1x2x32x1280 .bf16) : Prop :=
  ∀ b i n, L (ix5 0 0 b i n) = shiftA (q b) wv u v i n

/-- `W` is a tap's weights for 512 output channels from `off`. -/
def IsW (w : Vec Ideal S9x1280x2560 .fp8e4m3) (off : ℕ) (ho : off + 512 ≤ 2560) (tap : Fin 9) (W : Vec Ideal S1x1280x512 .fp8e4m3) : Prop :=
  ∀ n (o : Fin 512), W (ix3 0 n o) = w (ix3 tap n ⟨off + o.val, by omega⟩)

variable {q : Fin 2 → FVec Ideal S4x8x1280 .fp8e5m2} {wv : FVec Ideal S1x1x1280 .f32} {w : Vec Ideal S9x1280x2560 .fp8e4m3} {off : ℕ} {ho : off + 512 ≤ 2560}

/-- A product of shifted codes with a tap's weights is that tap's term. -/
theorem dot_T {u v : ℕ} {tap : Fin 9} {L : Vec Ideal S1x1x2x32x1280 .bf16} {W : Vec Ideal S1x1280x512 .fp8e4m3}
    (hL : IsL q wv u v L) (hW : IsW w off ho tap W) (b : Fin 2) (i : Fin 32) (o : Fin 512) :
    dotp L W (ix2 ⟨32 * b.val + i.val, by omega⟩ o)
      = Cert.Spec.T (AA q wv b) (fun n => w (ix3 tap n ⟨off + o.val, by omega⟩)) (i.val / 8 + u) (i.val % 8 + v) := by
  rw [dotp_apply]
  unfold Cert.Spec.T
  refine Finset.sum_congr rfl fun n _ => ?_
  rw [hW n o]
  refine congrArg (· * _) ?_
  rw [show (⟨(32 * b.val + i.val) / 32, by omega⟩ : Fin 2) = b from Fin.ext (by simp only; omega),
    show (⟨(32 * b.val + i.val) % 32, by omega⟩ : Fin 32) = i from Fin.ext (by simp only; omega)]
  exact hL b i n

section

variable {L11 L10 L01 L00 : Vec Ideal S1x1x2x32x1280 .bf16} {W0 W1 W2 W3 W4 W5 W6 W7 W8 : Vec Ideal S1x1280x512 .fp8e4m3}
  (h11 : IsL q wv 1 1 L11) (h10 : IsL q wv 1 0 L10) (h01 : IsL q wv 0 1 L01) (h00 : IsL q wv 0 0 L00)
  (k0 : IsW w off ho 0 W0) (k1 : IsW w off ho 1 W1) (k2 : IsW w off ho 2 W2) (k3 : IsW w off ho 3 W3) (k4 : IsW w off ho 4 W4)
  (k5 : IsW w off ho 5 W5) (k6 : IsW w off ho 6 W6) (k7 : IsW w off ho 7 W7) (k8 : IsW w off ho 8 W8)
  (sv : Fin 2 → EReal) (sc0 sc1 : FVec Ideal S1x1x1 .f32) (hsc0 : sc0 (ix3 0 0 0) = sv 0) (hsc1 : sc1 (ix3 0 0 0) = sv 1)

include h11 h10 h01 h00 k0 k1 k2 k6 k7 k8 hsc0 hsc1 in
/-- The odd rows of a window hold their parts of the input gradient. -/
theorem odd_apply : ∀ p ∈ pieces 1 off (by decide) ho sc0 sc1 (lo1 L10 L00 W1 W7) (hi1 L11 L10 L01 L00 W0 W2 W6 W8), ∀ x : p.1.shape.Idx,
      p.2 x = (fun i : S2x4x2x16x2560.Idx => D (AA q wv) w sv (i 0) (i 1).val (i 2).val (i 3).val (i 4)) (p.1.emb x) := by
  refine pieces_apply _ _ _ _ _ _ _ _ _ _ _ hsc0 hsc1 (fun b i o => ?_) (fun b i o => ?_)
  · exact congrArg₂ (· + ·) (dot_T h10 k1 b i o) (dot_T h00 k7 b i o)
  · exact congrArg₂ (· + ·) (congrArg₂ (· + ·) (congrArg₂ (· + ·) (dot_T h11 k0 b i o) (dot_T h10 k2 b i o)) (dot_T h01 k6 b i o)) (dot_T h00 k8 b i o)

include h01 h00 k3 k4 k5 hsc0 hsc1 in
/-- The even rows of a window hold their parts of the input gradient. -/
theorem even_apply : ∀ p ∈ pieces 0 off (by decide) ho sc0 sc1 (lo0 L00 W4) (hi0 L01 L00 W3 W5), ∀ x : p.1.shape.Idx,
      p.2 x = (fun i : S2x4x2x16x2560.Idx => D (AA q wv) w sv (i 0) (i 1).val (i 2).val (i 3).val (i 4)) (p.1.emb x) := by
  refine pieces_apply _ _ _ _ _ _ _ _ _ _ _ hsc0 hsc1 (fun b i o => ?_) (fun b i o => ?_)
  · exact dot_T h00 k4 b i o
  · exact congrArg₂ (· + ·) (dot_T h01 k3 b i o) (dot_T h00 k5 b i o)

end

/-! ## The ten windows -/

section

variable (c : Dev nD) (dy : BufOf (F := Ideal) c mDy) (ws : BufOf (F := Ideal) c mWs) (s0 : BufOf (F := Ideal) c mS0) (s1 : BufOf (F := Ideal) c mS1)
  (w : BufOf (F := Ideal) c mWh) (s2 : BufOf (F := Ideal) c mW)

/-- The stores of window 0. -/
theorem Ho0_eq : kernelRun.sl.Ho0_8 c dy ws s0 s1 w s2 = pieces 0 0 (by decide) (by decide) (kernelRun.sl.v367 c dy s0) (kernelRun.sl.v501 c dy s0)
    (lo0 (kernelRun.sl.v597 c dy ws s0 s1) (kernelRun.sl.v738 c w s2))
    (hi0 (kernelRun.sl.v584 c dy ws s0 s1) (kernelRun.sl.v597 c dy ws s0 s1) (kernelRun.sl.v712 c w s2) (kernelRun.sl.v724 c w s2)) := rfl
/-- The stores of window 1. -/
theorem Ho1_eq : kernelRun.sl.Ho1_8 c dy ws s0 s1 w s2 = pieces 1 0 (by decide) (by decide) (kernelRun.sl.v367 c dy s0) (kernelRun.sl.v501 c dy s0)
    (lo1 (kernelRun.sl.v571 c dy ws s0 s1) (kernelRun.sl.v597 c dy ws s0 s1) (kernelRun.sl.v614 c w s2) (kernelRun.sl.v626 c w s2))
    (hi1 (kernelRun.sl.v559 c dy ws s0 s1) (kernelRun.sl.v571 c dy ws s0 s1) (kernelRun.sl.v584 c dy ws s0 s1) (kernelRun.sl.v597 c dy ws s0 s1) (kernelRun.sl.v562 c w s2) (kernelRun.sl.v574 c w s2) (kernelRun.sl.v587 c w s2) (kernelRun.sl.v600 c w s2)) := rfl
/-- The stores of window 2. -/
theorem Ho2_eq : kernelRun.sl.Ho2_8 c dy ws s0 s1 w s2 = pieces 0 512 (by decide) (by decide) (kernelRun.sl.v367 c dy s0) (kernelRun.sl.v501 c dy s0)
    (lo0 (kernelRun.sl.v597 c dy ws s0 s1) (kernelRun.sl.v999 c w s2))
    (hi0 (kernelRun.sl.v584 c dy ws s0 s1) (kernelRun.sl.v597 c dy ws s0 s1) (kernelRun.sl.v973 c w s2) (kernelRun.sl.v985 c w s2)) := rfl
/-- The stores of window 3. -/
theorem Ho3_eq : kernelRun.sl.Ho3_8 c dy ws s0 s1 w s2 = pieces 1 512 (by decide) (by decide) (kernelRun.sl.v367 c dy s0) (kernelRun.sl.v501 c dy s0)
    (lo1 (kernelRun.sl.v571 c dy ws s0 s1) (kernelRun.sl.v597 c dy ws s0 s1) (kernelRun.sl.v875 c w s2) (kernelRun.sl.v887 c w s2))
    (hi1 (kernelRun.sl.v559 c dy ws s0 s1) (kernelRun.sl.v571 c dy ws s0 s1) (kernelRun.sl.v584 c dy ws s0 s1) (kernelRun.sl.v597 c dy ws s0 s1) (kernelRun.sl.v823 c w s2) (kernelRun.sl.v835 c w s2) (kernelRun.sl.v848 c w s2) (kernelRun.sl.v861 c w s2)) := rfl
/-- The stores of window 4. -/
theorem Ho4_eq : kernelRun.sl.Ho4_8 c dy ws s0 s1 w s2 = pieces 0 1024 (by decide) (by decide) (kernelRun.sl.v367 c dy s0) (kernelRun.sl.v501 c dy s0)
    (lo0 (kernelRun.sl.v597 c dy ws s0 s1) (kernelRun.sl.v1260 c w s2))
    (hi0 (kernelRun.sl.v584 c dy ws s0 s1) (kernelRun.sl.v597 c dy ws s0 s1) (kernelRun.sl.v1234 c w s2) (kernelRun.sl.v1246 c w s2)) := rfl
/-- The stores of window 5. -/
theorem Ho5_eq : kernelRun.sl.Ho5_8 c dy ws s0 s1 w s2 = pieces 1 1024 (by decide) (by decide) (kernelRun.sl.v367 c dy s0) (kernelRun.sl.v501 c dy s0)
    (lo1 (kernelRun.sl.v571 c dy ws s0 s1) (kernelRun.sl.v597 c dy ws s0 s1) (kernelRun.sl.v1136 c w s2) (kernelRun.sl.v1148 c w s2))
    (hi1 (kernelRun.sl.v559 c dy ws s0 s1) (kernelRun.sl.v571 c dy ws s0 s1) (kernelRun.sl.v584 c dy ws s0 s1) (kernelRun.sl.v597 c dy ws s0 s1) (kernelRun.sl.v1084 c w s2) (kernelRun.sl.v1096 c w s2) (kernelRun.sl.v1109 c w s2) (kernelRun.sl.v1122 c w s2)) := rfl
/-- The stores of window 6. -/
theorem Ho6_eq : kernelRun.sl.Ho6_8 c dy ws s0 s1 w s2 = pieces 0 1536 (by decide) (by decide) (kernelRun.sl.v367 c dy s0) (kernelRun.sl.v501 c dy s0)
    (lo0 (kernelRun.sl.v597 c dy ws s0 s1) (kernelRun.sl.v1521 c w s2))
    (hi0 (kernelRun.sl.v584 c dy ws s0 s1) (kernelRun.sl.v597 c dy ws s0 s1) (kernelRun.sl.v1495 c w s2) (kernelRun.sl.v1507 c w s2)) := rfl
/-- The stores of window 7. -/
theorem Ho7_eq : kernelRun.sl.Ho7_8 c dy ws s0 s1 w s2 = pieces 1 1536 (by decide) (by decide) (kernelRun.sl.v367 c dy s0) (kernelRun.sl.v501 c dy s0)
    (lo1 (kernelRun.sl.v571 c dy ws s0 s1) (kernelRun.sl.v597 c dy ws s0 s1) (kernelRun.sl.v1397 c w s2) (kernelRun.sl.v1409 c w s2))
    (hi1 (kernelRun.sl.v559 c dy ws s0 s1) (kernelRun.sl.v571 c dy ws s0 s1) (kernelRun.sl.v584 c dy ws s0 s1) (kernelRun.sl.v597 c dy ws s0 s1) (kernelRun.sl.v1345 c w s2) (kernelRun.sl.v1357 c w s2) (kernelRun.sl.v1370 c w s2) (kernelRun.sl.v1383 c w s2)) := rfl
/-- The stores of window 8. -/
theorem Ho8_eq : kernelRun.sl.Ho8_8 c dy ws s0 s1 w s2 = pieces 0 2048 (by decide) (by decide) (kernelRun.sl.v367 c dy s0) (kernelRun.sl.v501 c dy s0)
    (lo0 (kernelRun.sl.v597 c dy ws s0 s1) (kernelRun.sl.v1782 c w s2))
    (hi0 (kernelRun.sl.v584 c dy ws s0 s1) (kernelRun.sl.v597 c dy ws s0 s1) (kernelRun.sl.v1756 c w s2) (kernelRun.sl.v1768 c w s2)) := rfl
/-- The stores of window 9. -/
theorem Ho9_eq : kernelRun.sl.Ho9_8 c dy ws s0 s1 w s2 = pieces 1 2048 (by decide) (by decide) (kernelRun.sl.v367 c dy s0) (kernelRun.sl.v501 c dy s0)
    (lo1 (kernelRun.sl.v571 c dy ws s0 s1) (kernelRun.sl.v597 c dy ws s0 s1) (kernelRun.sl.v1658 c w s2) (kernelRun.sl.v1670 c w s2))
    (hi1 (kernelRun.sl.v559 c dy ws s0 s1) (kernelRun.sl.v571 c dy ws s0 s1) (kernelRun.sl.v584 c dy ws s0 s1) (kernelRun.sl.v597 c dy ws s0 s1) (kernelRun.sl.v1606 c w s2) (kernelRun.sl.v1618 c w s2) (kernelRun.sl.v1631 c w s2) (kernelRun.sl.v1644 c w s2)) := rfl

end

end Cert.KernelPieces
-- ==== Proof.KernelResults.lean ====
module

public import proofs.«01_k».proof.Proof.KernelPieces

@[expose] public section

set_option maxRecDepth 16384

noncomputable section

/-! What the kernel leaves in its results, as functions of its operands. -/

namespace Cert.KernelResults

open Cert.KernelIdeal Cert.KernelIdeal.Gen Cert.KernelIdeal.Hand Idealize.ShloMosaic Idealize.ShloMosaic.TcCoe
open Cert.KernelQuant (shiftA)
open Cert.KernelDots Cert.KernelPieces

/-! ## The results as functions of the operands -/

/-- The argument of an image's scale. -/
def KX (dy : Vec Ideal S2x4x8x1280 .bf16) (b : Fin 2) : EReal := Cert.Spec.X fun r j n => dy (ix4 b r j n)
/-- The scales. -/
def KSc (dy : Vec Ideal S2x4x8x1280 .bf16) (b : Fin 2) : EReal := Cert.Scale.kscale (KX dy b)
/-- The codes. -/
def KCo (dy : Vec Ideal S2x4x8x1280 .bf16) (b : Fin 2) (r : Fin 4) (j : Fin 8) (n : Fin 1280) : EReal :=
  Cert.Spec.clip (dy (ix4 b r j n) * Cert.Scale.kinv (KX dy b))
/-- The dequantised codes. -/
def KA (dy : Vec Ideal S2x4x8x1280 .bf16) (ws : Vec Ideal S1x1280 .f32) (b : Fin 2) : ℕ → ℕ → Fin 1280 → EReal :=
  Cert.Spec.A (KCo dy b) fun n => ws (ix2 0 n)
/-- The input gradient. -/
def KDx (dy : Vec Ideal S2x4x8x1280 .bf16) (ws : Vec Ideal S1x1280 .f32) (w : Vec Ideal S9x1280x2560 .fp8e4m3) (i : S2x4x2x16x2560.Idx) : EReal :=
  D (KA dy ws) w (KSc dy) (i 0) (i 1).val (i 2).val (i 3).val (i 4)

section

variable (c : Dev nD) (dy : BufOf (F := Ideal) c mDy) (ws : BufOf (F := Ideal) c mWs) (s0 : BufOf (F := Ideal) c mS0) (s1 : BufOf (F := Ideal) c mS1)
  (w : BufOf (F := Ideal) c mWh) (s2 : BufOf (F := Ideal) c mW)

/-- An image of the gradient, as loaded. -/
def slab0 : Vec Ideal S1x4x8x1280 .bf16 :=
  View.readAt (Elt Ideal) mS0.view (Rect.unit ![0, 0, 0, 0] S1x4x8x1280.size inb_S2x4x8x1280_S1x4x8x1280_0_0_0_0 : Rect S2x4x8x1280).toLoadRect
    (View.write (Elt Ideal) mS0.view s0 (kernelRun.sl.dma0 c dy) Finset.univ)
/-- An image of the gradient, as loaded. -/
def slab1 : Vec Ideal S1x4x8x1280 .bf16 :=
  View.readAt (Elt Ideal) mS0.view (Rect.unit ![1, 0, 0, 0] S1x4x8x1280.size inb_S2x4x8x1280_S1x4x8x1280_1_0_0_0 : Rect S2x4x8x1280).toLoadRect
    (View.write (Elt Ideal) mS0.view s0 (kernelRun.sl.dma0 c dy) Finset.univ)

/-- A loaded image is the operand's. -/
theorem slab_apply (b : Fin 2) (inb : ∀ a, (![b.val, 0, 0, 0] : Fin 4 → ℕ) a + S1x4x8x1280.size a ≤ S2x4x8x1280.size a) (r : Fin 4) (j : Fin 8) (n : Fin 1280) :
    View.readAt (Elt Ideal) mS0.view (Rect.unit ![b.val, 0, 0, 0] S1x4x8x1280.size inb : Rect S2x4x8x1280).toLoadRect
      (View.write (Elt Ideal) mS0.view s0 (kernelRun.sl.dma0 c dy) Finset.univ) (ix4 0 r j n) = dy (ix4 b r j n) := by
  rw [View.readAt_apply, View.read_write_univ]
  refine congrArg dy ?_
  funext a
  apply Fin.ext
  refine (Idealize.ShloMosaic.ValueKit.rect_emb_unit_val _ _ _ _ a).trans ?_
  fin_cases a <;> simp

/-- The first image. -/
theorem img0 : Cert.KernelQuant.img (slab0 c dy s0) = fun r j n => dy (ix4 0 r j n) := by
  funext r j n; exact slab_apply c dy s0 0 inb_S2x4x8x1280_S1x4x8x1280_0_0_0_0 r j n
/-- The second image. -/
theorem img1 : Cert.KernelQuant.img (slab1 c dy s0) = fun r j n => dy (ix4 1 r j n) := by
  funext r j n; exact slab_apply c dy s0 1 inb_S2x4x8x1280_S1x4x8x1280_1_0_0_0 r j n

/-- The first scale. -/
theorem sc0_eq : kernelRun.sl.v367 (F := Ideal) c dy s0 (ix3 0 0 0) = KSc dy 0 := by
  refine (Cert.KernelQuant.scale0 (slab0 c dy s0)).trans ?_
  rw [img0]; rfl
/-- The second scale. -/
theorem sc1_eq : kernelRun.sl.v501 (F := Ideal) c dy s0 (ix3 0 0 0) = KSc dy 1 := by
  refine (Cert.KernelQuant.scale1 (slab1 c dy s0)).trans ?_
  rw [img1]; rfl

/-- The codes of both images. -/
def qq : Fin 2 → FVec Ideal S4x8x1280 .fp8e5m2 :=
  ![kernelRun.sl.v374 c dy s0, k0_pay28 (kernelRun.sl.v417 c dy s0) (kernelRun.sl.v493 c dy s0) 23#32]

/-- The codes. -/
theorem qq_apply (b : Fin 2) (r : Fin 4) (j : Fin 8) (n : Fin 1280) : qq c dy s0 b (ix3 r j n) = KCo dy b r j n := by
  match b with
  | 0 =>
    refine (Cert.KernelQuant.code0 (slab0 c dy s0) r j n).trans ?_
    rw [img0]; rfl
  | 1 =>
    refine (congrFun (Cert.KernelQuant.code1_eq (slab1 c dy s0)) _).trans ?_
    refine (Cert.KernelQuant.code0 (slab1 c dy s0) r j n).trans ?_
    rw [img1]; rfl

/-- The weights' scales, as loaded. -/
theorem ws_apply (n : Fin 1280) : kernelRun.sl.v279 (F := Ideal) c ws s1 (ix3 0 0 n) = ws (ix2 0 n) := by
  unfold kernelRun.sl.v279
  pointwise [k0_pay1]
  rw [View.readAt_apply, View.read_write_univ]
  refine congrArg ws ?_
  funext a
  apply Fin.ext
  refine (Idealize.ShloMosaic.ValueKit.rect_emb_unit_val _ _ _ _ a).trans ?_
  fin_cases a <;> simp

/-- The dequantised codes. -/
theorem AA_eq : AA (qq c dy s0) (kernelRun.sl.v279 c ws s1) = KA dy ws := by
  funext b
  unfold AA KA
  congr 1
  · funext r j n; exact qq_apply c dy s0 b r j n
  · funext n; exact ws_apply c ws s1 n

/-! ## The ten windows -/

theorem isL11 : IsL (qq c dy s0) (kernelRun.sl.v279 c ws s1) 1 1 (kernelRun.sl.v559 c dy ws s0 s1) := fun b i n => lload c dy ws s0 s1 _ rfl rfl 1 1 _ b i n
theorem isL10 : IsL (qq c dy s0) (kernelRun.sl.v279 c ws s1) 1 0 (kernelRun.sl.v571 c dy ws s0 s1) := fun b i n => lload c dy ws s0 s1 _ rfl rfl 1 0 _ b i n
theorem isL01 : IsL (qq c dy s0) (kernelRun.sl.v279 c ws s1) 0 1 (kernelRun.sl.v584 c dy ws s0 s1) := fun b i n => lload c dy ws s0 s1 _ rfl rfl 0 1 _ b i n
theorem isL00 : IsL (qq c dy s0) (kernelRun.sl.v279 c ws s1) 0 0 (kernelRun.sl.v597 c dy ws s0 s1) := fun b i n => lload c dy ws s0 s1 _ rfl rfl 0 0 _ b i n

/-- The rows `L` of a window hold their parts of the input gradient, and fill the window. -/
def Fills (s off : ℕ) (L : List (View.Piece (Elt Ideal) S2x4x2x16x2560 .bf16)) : Prop :=
  (∀ p ∈ L, ∀ x : p.1.shape.Idx, p.2 x = KDx dy ws w (p.1.emb x))
    ∧ ∀ y : S2x4x2x16x2560.Idx, (y 2).val = s → off ≤ (y 4).val → (y 4).val < off + 512 → ∃ p ∈ L, y ∈ p.1.set

/-- The even rows of a window. -/
theorem even_fills (off : ℕ) (ho : off + 512 ≤ 2560) (W3 W4 W5 : Vec Ideal S1x1280x512 .fp8e4m3)
    (k3 : IsW w off ho 3 W3) (k4 : IsW w off ho 4 W4) (k5 : IsW w off ho 5 W5) (L : List (View.Piece (Elt Ideal) S2x4x2x16x2560 .bf16))
    (hL : L = pieces 0 off (by decide) ho (kernelRun.sl.v367 c dy s0) (kernelRun.sl.v501 c dy s0)
      (lo0 (kernelRun.sl.v597 c dy ws s0 s1) W4) (hi0 (kernelRun.sl.v584 c dy ws s0 s1) (kernelRun.sl.v597 c dy ws s0 s1) W3 W5)) :
    Fills c dy ws w 0 off L := by
  subst hL
  refine ⟨?_, fun y h1 h2 h3 => pieces_cover _ _ _ _ _ _ _ _ y h1 h2 h3⟩
  have h := even_apply (isL01 c dy ws s0 s1) (isL00 c dy ws s0 s1) k3 k4 k5 (KSc dy) _ _ (sc0_eq c dy s0) (sc1_eq c dy s0)
  rw [AA_eq] at h
  exact h

/-- The odd rows of a window. -/
theorem odd_fills (off : ℕ) (ho : off + 512 ≤ 2560) (W0 W1 W2 W6 W7 W8 : Vec Ideal S1x1280x512 .fp8e4m3)
    (k0 : IsW w off ho 0 W0) (k1 : IsW w off ho 1 W1) (k2 : IsW w off ho 2 W2) (k6 : IsW w off ho 6 W6) (k7 : IsW w off ho 7 W7) (k8 : IsW w off ho 8 W8)
    (L : List (View.Piece (Elt Ideal) S2x4x2x16x2560 .bf16))
    (hL : L = pieces 1 off (by decide) ho (kernelRun.sl.v367 c dy s0) (kernelRun.sl.v501 c dy s0)
      (lo1 (kernelRun.sl.v571 c dy ws s0 s1) (kernelRun.sl.v597 c dy ws s0 s1) W1 W7)
      (hi1 (kernelRun.sl.v559 c dy ws s0 s1) (kernelRun.sl.v571 c dy ws s0 s1) (kernelRun.sl.v584 c dy ws s0 s1) (kernelRun.sl.v597 c dy ws s0 s1) W0 W2 W6 W8)) :
    Fills c dy ws w 1 off L := by
  subst hL
  refine ⟨?_, fun y h1 h2 h3 => pieces_cover _ _ _ _ _ _ _ _ y h1 h2 h3⟩
  have h := odd_apply (isL11 c dy ws s0 s1) (isL10 c dy ws s0 s1) (isL01 c dy ws s0 s1) (isL00 c dy ws s0 s1) k0 k1 k2 k6 k7 k8 (KSc dy) _ _ (sc0_eq c dy s0) (sc1_eq c dy s0)
  rw [AA_eq] at h
  exact h

/-- Window 0. -/
theorem fills0 : Fills c dy ws w 0 0 (kernelRun.sl.Ho0_8 c dy ws s0 s1 w s2) :=
  even_fills c dy ws s0 s1 w 0 (by decide) _ _ _
    (fun n o => wload c w s2 3 0 (by decide) _ _ _ _ _ n o)
    (fun n o => wload c w s2 4 0 (by decide) _ _ _ _ _ n o)
    (fun n o => wload c w s2 5 0 (by decide) _ _ _ _ _ n o)
    _ (Ho0_eq c dy ws s0 s1 w s2)
/-- Window 1. -/
theorem fills1 : Fills c dy ws w 1 0 (kernelRun.sl.Ho1_8 c dy ws s0 s1 w s2) :=
  odd_fills c dy ws s0 s1 w 0 (by decide) _ _ _ _ _ _
    (fun n o => wload c w s2 0 0 (by decide) _ _ _ _ _ n o)
    (fun n o => wload c w s2 1 0 (by decide) _ _ _ _ _ n o)
    (fun n o => wload c w s2 2 0 (by decide) _ _ _ _ _ n o)
    (fun n o => wload c w s2 6 0 (by decide) _ _ _ _ _ n o)
    (fun n o => wload c w s2 7 0 (by decide) _ _ _ _ _ n o)
    (fun n o => wload c w s2 8 0 (by decide) _ _ _ _ _ n o)
    _ (Ho1_eq c dy ws s0 s1 w s2)
/-- Window 2. -/
theorem fills2 : Fills c dy ws w 0 512 (kernelRun.sl.Ho2_8 c dy ws s0 s1 w s2) :=
  even_fills c dy ws s0 s1 w 512 (by decide) _ _ _
    (fun n o => wload c w s2 3 512 (by decide) _ _ _ _ _ n o)
    (fun n o => wload c w s2 4 512 (by decide) _ _ _ _ _ n o)
    (fun n o => wload c w s2 5 512 (by decide) _ _ _ _ _ n o)
    _ (Ho2_eq c dy ws s0 s1 w s2)
/-- Window 3. -/
theorem fills3 : Fills c dy ws w 1 512 (kernelRun.sl.Ho3_8 c dy ws s0 s1 w s2) :=
  odd_fills c dy ws s0 s1 w 512 (by decide) _ _ _ _ _ _
    (fun n o => wload c w s2 0 512 (by decide) _ _ _ _ _ n o)
    (fun n o => wload c w s2 1 512 (by decide) _ _ _ _ _ n o)
    (fun n o => wload c w s2 2 512 (by decide) _ _ _ _ _ n o)
    (fun n o => wload c w s2 6 512 (by decide) _ _ _ _ _ n o)
    (fun n o => wload c w s2 7 512 (by decide) _ _ _ _ _ n o)
    (fun n o => wload c w s2 8 512 (by decide) _ _ _ _ _ n o)
    _ (Ho3_eq c dy ws s0 s1 w s2)
/-- Window 4. -/
theorem fills4 : Fills c dy ws w 0 1024 (kernelRun.sl.Ho4_8 c dy ws s0 s1 w s2) :=
  even_fills c dy ws s0 s1 w 1024 (by decide) _ _ _
    (fun n o => wload c w s2 3 1024 (by decide) _ _ _ _ _ n o)
    (fun n o => wload c w s2 4 1024 (by decide) _ _ _ _ _ n o)
    (fun n o => wload c w s2 5 1024 (by decide) _ _ _ _ _ n o)
    _ (Ho4_eq c dy ws s0 s1 w s2)
/-- Window 5. -/
theorem fills5 : Fills c dy ws w 1 1024 (kernelRun.sl.Ho5_8 c dy ws s0 s1 w s2) :=
  odd_fills c dy ws s0 s1 w 1024 (by decide) _ _ _ _ _ _
    (fun n o => wload c w s2 0 1024 (by decide) _ _ _ _ _ n o)
    (fun n o => wload c w s2 1 1024 (by decide) _ _ _ _ _ n o)
    (fun n o => wload c w s2 2 1024 (by decide) _ _ _ _ _ n o)
    (fun n o => wload c w s2 6 1024 (by decide) _ _ _ _ _ n o)
    (fun n o => wload c w s2 7 1024 (by decide) _ _ _ _ _ n o)
    (fun n o => wload c w s2 8 1024 (by decide) _ _ _ _ _ n o)
    _ (Ho5_eq c dy ws s0 s1 w s2)
/-- Window 6. -/
theorem fills6 : Fills c dy ws w 0 1536 (kernelRun.sl.Ho6_8 c dy ws s0 s1 w s2) :=
  even_fills c dy ws s0 s1 w 1536 (by decide) _ _ _
    (fun n o => wload c w s2 3 1536 (by decide) _ _ _ _ _ n o)
    (fun n o => wload c w s2 4 1536 (by decide) _ _ _ _ _ n o)
    (fun n o => wload c w s2 5 1536 (by decide) _ _ _ _ _ n o)
    _ (Ho6_eq c dy ws s0 s1 w s2)
/-- Window 7. -/
theorem fills7 : Fills c dy ws w 1 1536 (kernelRun.sl.Ho7_8 c dy ws s0 s1 w s2) :=
  odd_fills c dy ws s0 s1 w 1536 (by decide) _ _ _ _ _ _
    (fun n o => wload c w s2 0 1536 (by decide) _ _ _ _ _ n o)
    (fun n o => wload c w s2 1 1536 (by decide) _ _ _ _ _ n o)
    (fun n o => wload c w s2 2 1536 (by decide) _ _ _ _ _ n o)
    (fun n o => wload c w s2 6 1536 (by decide) _ _ _ _ _ n o)
    (fun n o => wload c w s2 7 1536 (by decide) _ _ _ _ _ n o)
    (fun n o => wload c w s2 8 1536 (by decide) _ _ _ _ _ n o)
    _ (Ho7_eq c dy ws s0 s1 w s2)
/-- Window 8. -/
theorem fills8 : Fills c dy ws w 0 2048 (kernelRun.sl.Ho8_8 c dy ws s0 s1 w s2) :=
  even_fills c dy ws s0 s1 w 2048 (by decide) _ _ _
    (fun n o => wload c w s2 3 2048 (by decide) _ _ _ _ _ n o)
    (fun n o => wload c w s2 4 2048 (by decide) _ _ _ _ _ n o)
    (fun n o => wload c w s2 5 2048 (by decide) _ _ _ _ _ n o)
    _ (Ho8_eq c dy ws s0 s1 w s2)
/-- Window 9. -/
theorem fills9 : Fills c dy ws w 1 2048 (kernelRun.sl.Ho9_8 c dy ws s0 s1 w s2) :=
  odd_fills c dy ws s0 s1 w 2048 (by decide) _ _ _ _ _ _
    (fun n o => wload c w s2 0 2048 (by decide) _ _ _ _ _ n o)
    (fun n o => wload c w s2 1 2048 (by decide) _ _ _ _ _ n o)
    (fun n o => wload c w s2 2 2048 (by decide) _ _ _ _ _ n o)
    (fun n o => wload c w s2 6 2048 (by decide) _ _ _ _ _ n o)
    (fun n o => wload c w s2 7 2048 (by decide) _ _ _ _ _ n o)
    (fun n o => wload c w s2 8 2048 (by decide) _ _ _ _ _ n o)
    _ (Ho9_eq c dy ws s0 s1 w s2)

/-- A window of the input gradient, copied from its scratch. -/
theorem copied (R : Rect S2x4x2x16x2560) (h1 h2 h3 h4) (f : BufOf (F := Ideal) c mX) (g : BufOf (F := Ideal) c mO) (i : S2x4x2x16x2560.Idx) (hi : i ∈ R.set) :
    View.write (Elt Ideal) ((mX.slice R h1).squeeze S2x4x16x512 h2).view f
      (ReadAs.same.apply (View.read (Elt Ideal) ((mO.slice R h3).squeeze S2x4x16x512 h4).view g)) Finset.univ i = View.read (Elt Ideal) mO.view g i := by
  obtain ⟨x, rfl⟩ := R.exists_idx_of_mem hi
  obtain ⟨y, hy⟩ : ∃ y : S2x4x16x512.Idx, Shape.reshapeEquiv h2.numel_eq y = x := ⟨_, Equiv.apply_symm_apply _ _⟩
  have k := View.write_emb_of_mem (v := ((mX.slice R h1).squeeze S2x4x16x512 h2).view) (Val := Elt Ideal) f
    (ReadAs.same.apply (View.read (Elt Ideal) ((mO.slice R h3).squeeze S2x4x16x512 h4).view g)) (Finset.mem_univ y)
  subst hy
  exact k

end

variable (c : Dev nD) (dy : BufOf (F := Ideal) c mDy) (ws : BufOf (F := Ideal) c mWs) (co : BufOf (F := Ideal) c mCo) (sc : BufOf (F := Ideal) c mSc) (s0 : BufOf (F := Ideal) c mS0) (s1 : BufOf (F := Ideal) c mS1) (s3 : BufOf (F := Ideal) c mS3) (s5 : BufOf (F := Ideal) c mS5) (s6 : BufOf (F := Ideal) c mS6) (w : BufOf (F := Ideal) c mWh) (s2 : BufOf (F := Ideal) c mW) (s4 : BufOf (F := Ideal) c mO) (dx : BufOf (F := Ideal) c mX)

/-- A window filled and copied. -/
theorem window {s off : ℕ} {L : List (View.Piece (Elt Ideal) S2x4x2x16x2560 .bf16)} (hL : Fills c dy ws w s off L)
    (inb : ∀ a, (![0, 0, s, 0, off] : Fin 5 → ℕ) a + S2x4x1x16x512.size a ≤ S2x4x2x16x2560.size a) (h1 h2 h3 h4) (i : S2x4x2x16x2560.Idx)
    (hi : (i 2).val = s ∧ off ≤ (i 4).val ∧ (i 4).val < off + 512) :
    View.write (Elt Ideal) ((mX.slice (Rect.unit ![0, 0, s, 0, off] S2x4x1x16x512.size inb) h1).squeeze S2x4x16x512 h2).view dx
      (ReadAs.same.apply (View.read (Elt Ideal) ((mO.slice (Rect.unit ![0, 0, s, 0, off] S2x4x1x16x512.size inb) h3).squeeze S2x4x16x512 h4).view
        (mO.view.writes (Elt Ideal) s4 L))) Finset.univ i = KDx dy ws w i := by
  refine (copied c _ h1 h2 h3 h4 dx _ i ?_).trans ?_
  · refine (Rect.mem_set_unit (inb := inb)).mpr fun a => ?_
    idx_vars i
    obtain ⟨e1, e2, e3⟩ := hi
    change i2.val = s at e1
    change off ≤ i4.val at e2
    change i4.val < off + 512 at e3
    fin_cases a <;> simp [S2x4x1x16x512] <;> omega
  · exact View.read_writes_apply_of_pieces mO.view s4 (KDx dy ws w) L hL.1 i (hL.2 i hi.1 hi.2.1 hi.2.2)

/-- What the run leaves in window 0. -/
theorem x0_apply (i : S2x4x2x16x2560.Idx) (hi : (i 2).val = 0 ∧ 0 ≤ (i 4).val ∧ (i 4).val < 0 + 512) :
    (kernelRun (F := Ideal) c dy ws co sc s0 s1 s3 s5 s6 w s2 s4 dx).1.x 0 i = KDx dy ws w i := by
  unfold Out.x
  exact window c dy ws w s4 dx (fills0 c dy ws s0 s1 w s2) _ _ _ _ _ i hi
/-- What the run leaves in window 1. -/
theorem x1_apply (i : S2x4x2x16x2560.Idx) (hi : (i 2).val = 1 ∧ 0 ≤ (i 4).val ∧ (i 4).val < 0 + 512) :
    (kernelRun (F := Ideal) c dy ws co sc s0 s1 s3 s5 s6 w s2 s4 dx).1.x 1 i = KDx dy ws w i := by
  unfold Out.x
  exact window c dy ws w s4 dx (fills1 c dy ws s0 s1 w s2) _ _ _ _ _ i hi
/-- What the run leaves in window 2. -/
theorem x2_apply (i : S2x4x2x16x2560.Idx) (hi : (i 2).val = 0 ∧ 512 ≤ (i 4).val ∧ (i 4).val < 512 + 512) :
    (kernelRun (F := Ideal) c dy ws co sc s0 s1 s3 s5 s6 w s2 s4 dx).1.x 2 i = KDx dy ws w i := by
  unfold Out.x
  exact window c dy ws w s4 dx (fills2 c dy ws s0 s1 w s2) _ _ _ _ _ i hi
/-- What the run leaves in window 3. -/
theorem x3_apply (i : S2x4x2x16x2560.Idx) (hi : (i 2).val = 1 ∧ 512 ≤ (i 4).val ∧ (i 4).val < 512 + 512) :
    (kernelRun (F := Ideal) c dy ws co sc s0 s1 s3 s5 s6 w s2 s4 dx).1.x 3 i = KDx dy ws w i := by
  unfold Out.x
  exact window c dy ws w s4 dx (fills3 c dy ws s0 s1 w s2) _ _ _ _ _ i hi
/-- What the run leaves in window 4. -/
theorem x4_apply (i : S2x4x2x16x2560.Idx) (hi : (i 2).val = 0 ∧ 1024 ≤ (i 4).val ∧ (i 4).val < 1024 + 512) :
    (kernelRun (F := Ideal) c dy ws co sc s0 s1 s3 s5 s6 w s2 s4 dx).1.x 4 i = KDx dy ws w i := by
  unfold Out.x
  exact window c dy ws w s4 dx (fills4 c dy ws s0 s1 w s2) _ _ _ _ _ i hi
/-- What the run leaves in window 5. -/
theorem x5_apply (i : S2x4x2x16x2560.Idx) (hi : (i 2).val = 1 ∧ 1024 ≤ (i 4).val ∧ (i 4).val < 1024 + 512) :
    (kernelRun (F := Ideal) c dy ws co sc s0 s1 s3 s5 s6 w s2 s4 dx).1.x 5 i = KDx dy ws w i := by
  unfold Out.x
  exact window c dy ws w s4 dx (fills5 c dy ws s0 s1 w s2) _ _ _ _ _ i hi
/-- What the run leaves in window 6. -/
theorem x6_apply (i : S2x4x2x16x2560.Idx) (hi : (i 2).val = 0 ∧ 1536 ≤ (i 4).val ∧ (i 4).val < 1536 + 512) :
    (kernelRun (F := Ideal) c dy ws co sc s0 s1 s3 s5 s6 w s2 s4 dx).1.x 6 i = KDx dy ws w i := by
  unfold Out.x
  exact window c dy ws w s4 dx (fills6 c dy ws s0 s1 w s2) _ _ _ _ _ i hi
/-- What the run leaves in window 7. -/
theorem x7_apply (i : S2x4x2x16x2560.Idx) (hi : (i 2).val = 1 ∧ 1536 ≤ (i 4).val ∧ (i 4).val < 1536 + 512) :
    (kernelRun (F := Ideal) c dy ws co sc s0 s1 s3 s5 s6 w s2 s4 dx).1.x 7 i = KDx dy ws w i := by
  unfold Out.x
  exact window c dy ws w s4 dx (fills7 c dy ws s0 s1 w s2) _ _ _ _ _ i hi
/-- What the run leaves in window 8. -/
theorem x8_apply (i : S2x4x2x16x2560.Idx) (hi : (i 2).val = 0 ∧ 2048 ≤ (i 4).val ∧ (i 4).val < 2048 + 512) :
    (kernelRun (F := Ideal) c dy ws co sc s0 s1 s3 s5 s6 w s2 s4 dx).1.x 8 i = KDx dy ws w i := by
  unfold Out.x
  exact window c dy ws w s4 dx (fills8 c dy ws s0 s1 w s2) _ _ _ _ _ i hi
/-- What the run leaves in window 9. -/
theorem x9_apply (i : S2x4x2x16x2560.Idx) (hi : (i 2).val = 1 ∧ 2048 ≤ (i 4).val ∧ (i 4).val < 2048 + 512) :
    (kernelRun (F := Ideal) c dy ws co sc s0 s1 s3 s5 s6 w s2 s4 dx).1.x 9 i = KDx dy ws w i := by
  unfold Out.x
  exact window c dy ws w s4 dx (fills9 c dy ws s0 s1 w s2) _ _ _ _ _ i hi

/-- What the run leaves in each window of the input gradient. -/
theorem x_apply (k : Fin 10) (i : S2x4x2x16x2560.Idx) (hi : i ∈ (xRect k).set) : (kernelRun (F := Ideal) c dy ws co sc s0 s1 s3 s5 s6 w s2 s4 dx).1.x k i = KDx dy ws w i := by
  have h := mem_xRect.mp hi
  clear hi
  fin_cases k
  · exact x0_apply c dy ws co sc s0 s1 s3 s5 s6 w s2 s4 dx i h
  · exact x1_apply c dy ws co sc s0 s1 s3 s5 s6 w s2 s4 dx i h
  · exact x2_apply c dy ws co sc s0 s1 s3 s5 s6 w s2 s4 dx i h
  · exact x3_apply c dy ws co sc s0 s1 s3 s5 s6 w s2 s4 dx i h
  · exact x4_apply c dy ws co sc s0 s1 s3 s5 s6 w s2 s4 dx i h
  · exact x5_apply c dy ws co sc s0 s1 s3 s5 s6 w s2 s4 dx i h
  · exact x6_apply c dy ws co sc s0 s1 s3 s5 s6 w s2 s4 dx i h
  · exact x7_apply c dy ws co sc s0 s1 s3 s5 s6 w s2 s4 dx i h
  · exact x8_apply c dy ws co sc s0 s1 s3 s5 s6 w s2 s4 dx i h
  · exact x9_apply c dy ws co sc s0 s1 s3 s5 s6 w s2 s4 dx i h

/-- Where a block of codes lies. -/
theorem emb_co (b : Fin 2) (inb : ∀ a, (![b.val, 0, 0, 0] : Fin 4 → ℕ) a + S1x4x8x1280.size a ≤ S2x4x8x1280.size a) (r : Fin 4) (j : Fin 8) (n : Fin 1280) :
    (Rect.unit ![b.val, 0, 0, 0] S1x4x8x1280.size inb : Rect S2x4x8x1280).emb (ix4 0 r j n) = (ix4 b r j n : S2x4x8x1280.Idx) := by
  funext a
  apply Fin.ext
  refine (Idealize.ShloMosaic.ValueKit.rect_emb_unit_val _ _ _ _ a).trans ?_
  fin_cases a <;> simp

/-- The stored codes, by their index. -/
def Q (q : Fin 2 → FVec Ideal S4x8x1280 .fp8e5m2) (i : S2x4x8x1280.Idx) : Elt Ideal .fp8e5m2 := q (i 0) (ix3 (i 1) (i 2) (i 3))

/-- A block of codes, stored with its batch axis. -/
theorem cast4 (q : FVec Ideal S4x8x1280 .fp8e5m2) (r : Fin 4) (j : Fin 8) (n : Fin 1280) : k0_pay11 q (ix4 0 r j n) = q (ix3 r j n) := by
  pointwise [k0_pay11]

/-- A stored block of codes. -/
theorem co_piece (q : Fin 2 → FVec Ideal S4x8x1280 .fp8e5m2) (b : Fin 2) (inb : ∀ a, (![b.val, 0, 0, 0] : Fin 4 → ℕ) a + S1x4x8x1280.size a ≤ S2x4x8x1280.size a)
    (x : S1x4x8x1280.Idx) :
    k0_pay11 (q b) x = Q q ((Rect.unit ![b.val, 0, 0, 0] S1x4x8x1280.size inb : Rect S2x4x8x1280).emb x) := by
  idx_vars x
  have h0 : x0 = 0 := Subsingleton.elim _ _
  subst h0
  rw [emb_co, cast4]
  rfl

/-- The stored codes. -/
theorem co_pieces : ∀ p ∈ kernelRun.sl.Hco_2 (F := Ideal) c dy s0, ∀ x : p.1.shape.Idx, p.2 x = Q (qq c dy s0) (p.1.emb x) := by
  unfold kernelRun.sl.Hco_2 kernelRun.sl.Hco_1
  simp only [List.forall_mem_cons]
  exact ⟨co_piece (qq c dy s0) 1 inb_S2x4x8x1280_S1x4x8x1280_1_0_0_0, co_piece (qq c dy s0) 0 inb_S2x4x8x1280_S1x4x8x1280_0_0_0_0, fun _ h => absurd h List.not_mem_nil⟩

/-- The two blocks fill the codes. -/
theorem co_cover (b : Fin 2) (r : Fin 4) (j : Fin 8) (n : Fin 1280) : ∃ p ∈ kernelRun.sl.Hco_2 (F := Ideal) c dy s0, (ix4 b r j n : S2x4x8x1280.Idx) ∈ p.1.set := by
  have m : ∀ inb, (ix4 b r j n : S2x4x8x1280.Idx) ∈ (Rect.unit ![b.val, 0, 0, 0] S1x4x8x1280.size inb : Rect S2x4x8x1280).set := by
    intro inb
    refine (Rect.mem_set_unit (inb := inb)).mpr fun a => ?_
    fin_cases a <;> simp [S1x4x8x1280]
  unfold kernelRun.sl.Hco_2 kernelRun.sl.Hco_1
  simp only [List.exists_mem_cons_iff]
  match b, m with
  | 1, m => exact .inl (m _)
  | 0, m => exact .inr (.inl (m _))

/-- The codes' buffer, written whole. -/
theorem co_write (x : S2x4x8x1280.Idx → Elt Ideal .fp8e5m2) (i : S2x4x8x1280.Idx) :
    (View.write (Elt Ideal) mCo.view co x Finset.univ : BufOf (F := Ideal) c mCo) i = x i :=
  View.write_emb_of_mem (v := mCo.view) (Val := Elt Ideal) co x (Finset.mem_univ i)

/-- The codes' scratch, read for the copy. -/
theorem co_read (g : BufOf (F := Ideal) c mS5) :
    (ReadAs.same.apply (View.read (Elt Ideal) mS5.view g) : S2x4x8x1280.Idx → Elt Ideal .fp8e5m2) = View.read (Elt Ideal) mS5.view g := rfl

/-- The codes, copied from their scratch. -/
theorem co_copied (i : S2x4x8x1280.Idx) :
    (View.write (Elt Ideal) mCo.view co (kernelRun.sl.dma27 (F := Ideal) c dy s0 s5) Finset.univ : BufOf (F := Ideal) c mCo) i
      = View.read (Elt Ideal) mS5.view (mS5.view.writes (Elt Ideal) s5 (kernelRun.sl.Hco_2 (F := Ideal) c dy s0)) i :=
  (co_write c co _ i).trans (congrFun (co_read c _) i)

/-- The codes that the run names. -/
theorem co_eq : (kernelRun (F := Ideal) c dy ws co sc s0 s1 s3 s5 s6 w s2 s4 dx).1.co
    = (View.write (Elt Ideal) mCo.view co (kernelRun.sl.dma27 (F := Ideal) c dy s0 s5) Finset.univ : BufOf (F := Ideal) c mCo) := rfl

/-- What the run leaves in the codes. -/
theorem co_apply (b : Fin 2) (r : Fin 4) (j : Fin 8) (n : Fin 1280) :
    (kernelRun (F := Ideal) c dy ws co sc s0 s1 s3 s5 s6 w s2 s4 dx).1.co (ix4 b r j n) = KCo dy b r j n := by
  have e := View.read_writes_apply_of_pieces mS5.view s5 (Q (qq c dy s0)) _ (co_pieces c dy s0) _ (co_cover c dy s0 b r j n)
  rw [co_eq]
  exact (co_copied c dy co s0 s5 _).trans (e.trans (qq_apply c dy s0 b r j n))

/-- What the run leaves in the scales. -/
theorem sc_apply (b : Fin 2) : (kernelRun (F := Ideal) c dy ws co sc s0 s1 s3 s5 s6 w s2 s4 dx).1.sc (ix1 b) = KSc dy b := by
  have emb : ∀ (b : Fin 2) (inb : ∀ a, (![b.val] : Fin 1 → ℕ) a + S1.size a ≤ S2.size a), (Rect.unit ![b.val] S1.size inb : Rect S2).emb (ix1 0) = (ix1 b : S2.Idx) := by
    intro b inb
    funext a
    apply Fin.ext
    refine (Idealize.ShloMosaic.ValueKit.rect_emb_unit_val _ _ _ _ a).trans ?_
    fin_cases a <;> simp
  have pc : ∀ (b : Fin 2) (inb : ∀ a, (![b.val] : Fin 1 → ℕ) a + S1.size a ≤ S2.size a) (p : EReal) (hp : p = KSc dy b) (x : S1.Idx),
      p = (fun i : S2.Idx => KSc dy (i 0)) ((Rect.unit ![b.val] S1.size inb : Rect S2).emb x) := by
    intro b inb p hp x
    idx_vars x
    have h0 : x0 = 0 := Subsingleton.elim _ _
    subst h0
    rw [emb, hp]
    rfl
  have ex : ∀ q : FVec Ideal S1x1x1 .f32, k0_pay12 q = q (ix3 0 0 0) := by
    intro q
    pointwise [k0_pay12]
  have key : ∀ p ∈ kernelRun.sl.Hsc_2 (F := Ideal) c dy s0, ∀ x : p.1.shape.Idx, p.2 x = (fun i : S2.Idx => KSc dy (i 0)) (p.1.emb x) := by
    unfold kernelRun.sl.Hsc_2 kernelRun.sl.Hsc_1
    simp only [List.forall_mem_cons]
    exact ⟨pc 1 _ _ ((ex _).trans (sc1_eq c dy s0)), pc 0 _ _ ((ex _).trans (sc0_eq c dy s0)), fun _ h => absurd h List.not_mem_nil⟩
  have cov : ∃ p ∈ kernelRun.sl.Hsc_2 (F := Ideal) c dy s0, (ix1 b : S2.Idx) ∈ p.1.set := by
    have m : ∀ inb, (ix1 b : S2.Idx) ∈ (Rect.unit ![b.val] S1.size inb : Rect S2).set := by
      intro inb
      refine (Rect.mem_set_unit (inb := inb)).mpr fun a => ?_
      fin_cases a <;> simp [S1]
    unfold kernelRun.sl.Hsc_2 kernelRun.sl.Hsc_1
    simp only [List.exists_mem_cons_iff]
    match b, m with
    | 1, m => exact .inl (m _)
    | 0, m => exact .inr (.inl (m _))
  have e := View.read_writes_apply_of_pieces mS6.view s6 (fun i : S2.Idx => (KSc dy (i 0) : Elt Ideal .f32)) _ key _ cov
  refine Eq.trans ?_ e
  exact View.write_emb_of_mem (v := mSc.view) (Val := Elt Ideal) sc (kernelRun.sl.dma27_1 c dy s0 s6) (Finset.mem_univ (ix1 b))

end Cert.KernelResults
-- ==== Proof.KernelIdealValue.lean ====
/-
  The run of the kernel's program read over the reals, with its results as functions of its arguments.
-/
module

public import proofs.«01_k».proof.Proof.KernelIdealFrame
public import proofs.«01_k».proof.Proof.KernelResults

@[expose] public section

set_option maxRecDepth 16384

noncomputable section

namespace Cert.KernelIdeal.HandV

open Cert.KernelIdeal Cert.KernelIdeal.Gen Cert.KernelIdeal.Hand Cert.KernelResults
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (Pipeline.UD sig nD τ) ℕ

variable (m : (ℓ : Loc nD τ sig) → Buf (Elt Ideal) ℓ) (ρ : Dev nD → PrngReg)

/-- The input gradient, by row and column parities. -/
def gx (c : Dev nD) : BufOf (F := Ideal) c mX := fun i => KDx (V m c main_arg0) (V m c main_v2) (V m c main_v1) i
/-- The codes. -/
def gco (c : Dev nD) : BufOf (F := Ideal) c mCo := fun i => KCo (V m c main_arg0) (i 0) (i 1) (i 2) (i 3)
/-- The scales. -/
def gsc (c : Dev nD) : BufOf (F := Ideal) c mSc := fun i => KSc (V m c main_arg0) (i 0)

/-- The contents after the region: the three results at their values. -/
def GG (c : Dev nD) (b : Ref sig .tc) : Buf (Elt Ideal) ((c.tc : Thread nD τ).loc b) :=
  Function.update (Function.update (Function.update (fun b => V m c b) main_v3_0 (gx m c)) main_v3_1 (gco m c)) main_v3_2 (gsc m c) b

theorem GG_x (c : Dev nD) : GG m c main_v3_0 = gx m c := by
  unfold GG
  rw [Function.update_of_ne (by decide), Function.update_of_ne (by decide), Function.update_self]
theorem GG_co (c : Dev nD) : GG m c main_v3_1 = gco m c := by
  unfold GG
  rw [Function.update_of_ne (by decide), Function.update_self]
theorem GG_sc (c : Dev nD) : GG m c main_v3_2 = gsc m c := by
  unfold GG
  rw [Function.update_self]

/-- The results, listed. -/
theorem resPts0_eq (c : Dev nD) (G : (b : Ref sig .tc) → Buf (Elt Ideal) ((c : Thread nD τ).loc b)) :
    (bigSep R0 (fun b => ((c : Thread nD τ).loc b) ↦{fullShare} G b) : sProp 𝕄)
      = iprop(pt c mX (G main_v3_0) ∗ pt c mCo (G main_v3_1) ∗ pt c mSc (G main_v3_2)) := by
  rw [BI.bigSep_eq_bigSepL_of_eq [main_v3_0, main_v3_1, main_v3_2] (by decide) (by decide)]; rfl

/-- The region's invariant, listed. -/
theorem PhiV_eq (G : (c : Dev nD) → (b : Ref sig .tc) → Buf (Elt Ideal) ((c.tc : Thread nD τ).loc b)) (c : Dev nD) :
    (Pipeline.ΦDRV osem0 cfg0.spec H0 R0 (V m) G c : sProp 𝕄)
      = iprop(iprop((∃ f, pt c mS0 f) ∗ (∃ f, pt c mS1 f) ∗ (∃ f, pt c mW f) ∗ (∃ f, pt c mS3 f) ∗ (∃ f, pt c mO f) ∗ (∃ f, pt c mS5 f) ∗ (∃ f, pt c mS6 f))
          ∗ (bigSep Finset.univ fun k : Fin 59 => cell c k)
          ∗ iprop(pt c mDy (V m c main_arg0) ∗ pt c mWh (V m c main_v1) ∗ pt c mWs (V m c main_v2))
          ∗ iprop(pt c mX (G c main_v3_0) ∗ pt c mCo (G c main_v3_1) ∗ pt c mSc (G c main_v3_2))) := by
  unfold Pipeline.ΦDRV
  rw [scopedRest0_eq, ownSems00_eq, hbmPts0_eq, resPts0_eq]

/-- The proof data of the region: the results are as found before its one point, and at their values after it. -/
def datsV (_ : Fin 1) (c : Dev nD) : Dat τ (Elt Ideal) Unit ℕ (Pipeline.UD sig nD τ) ℕ cfg0 c where
  A w := Fin.elim0 w
  after w _ := Fin.elim0 w
  Φ t := Pipeline.ΦDRV osem0 cfg0.spec H0 R0 (V m) (if t.val = 0 then V m else GG m) c
  q _ := fullShare
  owed _ := 0

/-- What the body leaves in the results. -/
theorem results (c : Dev nD) (co : BufOf (F := Ideal) c mCo) (sc : BufOf (F := Ideal) c mSc) (s0 : BufOf (F := Ideal) c mS0) (s1 : BufOf (F := Ideal) c mS1) (s3 : BufOf (F := Ideal) c mS3) (s5 : BufOf (F := Ideal) c mS5) (s6 : BufOf (F := Ideal) c mS6) (s2 : BufOf (F := Ideal) c mW) (s4 : BufOf (F := Ideal) c mO) (dx dx' : BufOf (F := Ideal) c mX)
    (h : ∀ k : Fin 10, ∀ i ∈ mX.view.setOn (xRect k).set,
      dx' i = (kernelRun (F := Ideal) c (V m c main_arg0) (V m c main_v2) co sc s0 s1 s3 s5 s6 (V m c main_v1) s2 s4 dx).1.x k i) :
    dx' = GG m c main_v3_0 ∧ (kernelRun (F := Ideal) c (V m c main_arg0) (V m c main_v2) co sc s0 s1 s3 s5 s6 (V m c main_v1) s2 s4 dx).1.co = GG m c main_v3_1
      ∧ (kernelRun (F := Ideal) c (V m c main_arg0) (V m c main_v2) co sc s0 s1 s3 s5 s6 (V m c main_v1) s2 s4 dx).1.sc = GG m c main_v3_2 := by
  rw [GG_x, GG_co, GG_sc]
  refine ⟨?_, ?_, ?_⟩
  · funext (i : S2x4x2x16x2560.Idx)
    obtain ⟨k, hk⟩ := xRect_mem i
    exact (h k i (View.mem_setOn (v := mX.view) (x := i) |>.mpr hk)).trans (x_apply c _ _ co sc s0 s1 s3 s5 s6 _ s2 s4 dx k i hk)
  · funext (i : S2x4x8x1280.Idx)
    idx_vars i
    exact co_apply c _ _ co sc s0 s1 s3 s5 s6 _ s2 s4 dx i0 i1 i2 i3
  · funext (i : S2.Idx)
    idx_vars i
    exact sc_apply c _ _ co sc s0 s1 s3 s5 s6 _ s2 s4 dx i0

theorem sound_bodyV (c : Dev nD) (t : Fin cfg0.N) :
    iprop((datsV m 0 c).Φ t.castSucc ∗ (datsV m 0 c).owesAt () t.castSucc)
      ⊢ wp frame (wpE (defs₀ (F := Ideal)) Variants.none c none) Set.univ body (fun _ => iprop((datsV m 0 c).Φ t.succ ∗ (datsV m 0 c).owesAt () t.succ)) := by
  have ht : t.val = 0 := by have h : t.val < 1 := t.isLt; omega
  rw [show (datsV m 0 c).Φ t.succ = Pipeline.ΦDRV osem0 cfg0.spec H0 R0 (V m) (GG m) c from by
      show Pipeline.ΦDRV osem0 cfg0.spec H0 R0 (V m) (if t.val + 1 = 0 then V m else GG m) c = _
      rw [if_neg (Nat.succ_ne_zero _)],
    show (datsV m 0 c).Φ t.castSucc = Pipeline.ΦDRV osem0 cfg0.spec H0 R0 (V m) (V m) c from by
      show Pipeline.ΦDRV osem0 cfg0.spec H0 R0 (V m) (if t.val = 0 then V m else GG m) c = _
      rw [if_pos ht],
    PhiV_eq, PhiV_eq]
  unfold Dat.owesAt Pipeline.owesWithin
  rw [show (datsV m 0 c).owed t.castSucc = 0 from rfl, show (datsV m 0 c).owed t.succ = 0 from rfl]
  iintro ⟨⟨⟨⟨%s0, H0⟩, ⟨%s1, H1⟩, ⟨%s2, H2⟩, ⟨%s3, H3⟩, ⟨%s4, H4⟩, ⟨%s5, H5⟩, ⟨%s6, H6⟩⟩, Hq, ⟨Hdy, Hwh, Hws⟩, Hx, Hco, Hsc⟩, ⟨%W, -, HW⟩⟩
  iapply (body_run c (V m c main_arg0) (V m c main_v2) (V m c main_v3_1) (V m c main_v3_2) s0 s1 s3 s5 s6 (V m c main_v1) s2 s4 (V m c main_v3_0)
    (fun dx co sc => dx = GG m c main_v3_0 ∧ co = GG m c main_v3_1 ∧ sc = GG m c main_v3_2)
    (fun dx' h => results m c (V m c main_v3_1) (V m c main_v3_2) s0 s1 s3 s5 s6 s2 s4 (V m c main_v3_0) dx' h) W _)
  isplitr [HW]
  · unfold Whole
    isplitl [Hdy]; · iexact Hdy
    isplitl [Hws]; · iexact Hws
    isplitl [Hco]; · iexact Hco
    isplitl [Hsc]; · iexact Hsc
    isplitl [H0]; · iexact H0
    isplitl [H1]; · iexact H1
    isplitl [H3]; · iexact H3
    isplitl [H5]; · iexact H5
    isplitl [H6]; · iexact H6
    isplitl [Hwh]; · iexact Hwh
    isplitl [H2]; · iexact H2
    isplitl [H4]; · iexact H4
    isplitl [Hx]; · iexact Hx
    iexact Hq
  isplitl [HW]; · iexact HW
  unfold Whole
  iintro ⟨⟨%co', %sc', %t0, %t1, %t3, %t5, %t6, %t2, %t4, %dx', %hv, Hdy, Hws, Hco, Hsc, H0, H1, H3, H5, H6, Hwh, H2, H4, Hx, Hq⟩, ⟨%W', HW'⟩⟩
  obtain ⟨hx, hco, hsc⟩ := hv
  subst hx hco hsc
  isplitr [HW']
  · isplitl [H0 H1 H2 H3 H4 H5 H6]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
    isplitl [Hq]; · iexact Hq
    isplitl [Hdy Hwh Hws]
    · isplitl [Hdy]; · iexact Hdy
      isplitl [Hwh]; · iexact Hwh
      iexact Hws
    isplitl [Hx]; · iexact Hx
    isplitl [Hco]; · iexact Hco
    iexact Hsc
  iexists W'; isplitr; · ipureintro; exact fun _ _ => Or.inl trivial
  iexact HW'

theorem body_obligationV (c : Dev nD) : BodyObligationLoose (datsV m 0 c) (defs₀ (F := Ideal)) Variants.none () Set.univ := by
  refine Pipeline.BodyObligation.loose _ (show BodyObligation (datsV m 0 c) (defs₀ (F := Ideal)) Variants.none () Set.univ from fun t => ?_)
  rw [bigSep_W0, bigSep_W0, defs₀_row]
  exact triple_restated (sound_bodyV m c t) rfl (by iintro ⟨H1, H2, -⟩; isplitl [H1]; · iexact H1
                                                    iexact H2) fun _ => (by iintro ⟨H1, H2⟩; isplitl [H1]; · iexact H1
                                                                            isplitl [H2]; · iexact H2
                                                                            iempintro)

/-- The contents when the region ends, as a valuation. -/
abbrev VE (c : Dev nD) : Valuation τ sig (Elt Ideal) :=
  Pipeline.withArrays cfg0.spec c (Pipeline.withR (V0 m c) R0 c (GG m c)) fun w => (datsV m 0 c).arrAt w cfg0.N

set_option backward.isDefEq.respectTransparency.types false in
/-- The run of the whole program, with every buffer that no region stages. -/
theorem run_mainV : θ_run defs (onTc (τ := τ) (main (F := Ideal))) (s₀ m ρ)
    (fun r => ∀ c : Dev nD, (∀ w, r.2.mem ((cfg0.spec w).arr.view.loc (c.tc : Thread nD τ)) = (datsV m 0 c).arrAt w cfg0.N)
      ∧ ∀ b ∈ Pipeline.restRefs sig cfg0.spec, r.2.mem ((c.tc : Thread nD τ).loc b) = StableHlo.after [hostOps1].flatten (VE m c) (Proc.devRef .tc b)) :=
  Pipeline.θ_run_frame_dmaR_aroundV cfgs (datsV m) (0 : Fin 1) launch0 osem0 defs₀ Variants.none ownSemFacts0 H0 R0 H0_sub R0_sub m ρ main
    (hbody := fun c => body_obligationV m c) (hshare := fun c => (datsV m 0 c).share_full fun _ => rfl)
    (howed := fun _ _ => rfl) (V₀ := V0 m) (opss := [hostOps1]) (hsub := sfx_sub) (hfresh := sfx_fresh) (hkeep := sfx_keeps) (G := GG m)
    (hmain := hmainD m Variants.none) (hA := fun _ w => Fin.elim0 w)
    (hin := fun _ => .rfl) (hout := fun _ => .rfl)

end Cert.KernelIdeal.HandV

end
-- ==== Proof.KernelIdealResults.lean ====
/-
  The results of the kernel's program, as functions of its arguments as launched.
-/
module

public import proofs.«01_k».proof.Proof.KernelIdealValue

@[expose] public section

set_option maxRecDepth 16384

noncomputable section

namespace Cert.KernelIdeal.HandV

open Cert.KernelIdeal Cert.KernelIdeal.Gen Cert.KernelIdeal.Hand Cert.KernelResults
open Idealize.ShloMosaic Idealize.ShloMosaic.TcCoe Idealize.ShloMosaic.Tactic Idealize.SL.Sem

variable (m : (ℓ : Loc nD τ sig) → Buf (Elt Ideal) ℓ) (ρ : Dev nD → PrngReg)

/-- The staged taps: the weights transposed and their two tap axes merged. -/
theorem V_w (c : Dev nD) : V m c main_v1
    = shapeCast S9x1280x2560 (transpose S3x3x1280x2560 [2, 3, 0, 1] (m ((c.tc : Thread nD τ).loc main_arg1)) transposes_S1280x2560x3x3_S3x3x1280x2560_2_3_0_1)
        shapeCasts_S3x3x1280x2560_S9x1280x2560 := by
  show StableHlo.after (List.flatten [hostOps0]) (fun b => m (c, b)) (Proc.devRef .tc main_v1) = _
  simp only [hostOps0, List.flatten_cons, List.flatten_nil, List.append_nil, StableHlo.after_cons, StableHlo.after_nil]
  rw [StableHlo.reshape_result_ne' (h := by decide), StableHlo.reshape_result', StableHlo.unary_result']
  rfl

/-- The staged weight scales: one row of the argument. -/
theorem V_ws (c : Dev nD) : V m c main_v2
    = shapeCast S1x1280 (m ((c.tc : Thread nD τ).loc main_arg2)) shapeCasts_S1280_S1x1280 := by
  show StableHlo.after (List.flatten [hostOps0]) (fun b => m (c, b)) (Proc.devRef .tc main_v2) = _
  simp only [hostOps0, List.flatten_cons, List.flatten_nil, List.append_nil, StableHlo.after_cons, StableHlo.after_nil]
  rw [StableHlo.reshape_result', StableHlo.reshape_result_ne' (h := by decide), StableHlo.unary_result_ne' (h := by decide)]
  rfl

/-- A staged tap is the weight of its row and column of taps. -/
theorem w_apply (a1 : Vec Ideal S1280x2560x3x3 .fp8e4m3) (p q : Fin 3) (n : Fin 1280) (o : Fin 2560) (h : 3 * p.val + q.val < 9) :
    shapeCast S9x1280x2560 (transpose S3x3x1280x2560 [2, 3, 0, 1] a1 transposes_S1280x2560x3x3_S3x3x1280x2560_2_3_0_1)
      shapeCasts_S3x3x1280x2560_S9x1280x2560 (ix3 ⟨3 * p.val + q.val, h⟩ n o) = a1 (ix4 n o p q) := by
  refine (shapeCast_apply _ _ _ (ix4 p q n o) ?_).trans ?_
  · rw [Shape.rowMajor_val_four, Shape.rowMajor_val_three]
    show ((p.val * 3 + q.val) * 1280 + n.val) * 2560 + o.val = ((3 * p.val + q.val) * 1280 + n.val) * 2560 + o.val
    omega
  · refine transpose_apply _ _ _ _ (ix4 n o p q) ?_
    intro b
    fin_cases b <;> rfl

/-- A staged weight scale. -/
theorem ws_apply (a2 : Vec Ideal S1280 .f32) (n : Fin 1280) :
    shapeCast S1x1280 a2 shapeCasts_S1280_S1x1280 (ix2 0 n) = a2 (ix1 n) := by
  simp only [pointwise]

/-- An element of the input gradient from its row and column parities. -/
theorem dx_shape (f : Vec Ideal S2x4x2x16x2560 .bf16) (b : Fin 2) (r : Fin 4) (s : Fin 2) (x : Fin 16) (o : Fin 2560) (y : Fin 8) (hy : y.val = 2 * r.val + s.val) :
    shapeCast S2x8x16x2560 f shapeCasts_S2x4x2x16x2560_S2x8x16x2560 (ix4 b y x o) = f (ix5 b r s x o) := by
  refine shapeCast_apply _ _ _ (ix5 b r s x o) ?_
  rw [Shape.rowMajor_val_four, Shape.rowMajor_val_five]
  show (((b.val * 4 + r.val) * 2 + s.val) * 16 + x.val) * 2560 + o.val = ((b.val * 8 + y.val) * 16 + x.val) * 2560 + o.val
  omega

/-- The staged taps as a function of the weights. -/
def wOf (a1 : Vec Ideal S1280x2560x3x3 .fp8e4m3) : Vec Ideal S9x1280x2560 .fp8e4m3 :=
  shapeCast S9x1280x2560 (transpose S3x3x1280x2560 [2, 3, 0, 1] a1 transposes_S1280x2560x3x3_S3x3x1280x2560_2_3_0_1) shapeCasts_S3x3x1280x2560_S9x1280x2560
/-- The staged weight scales as a function of the argument. -/
def wsOf (a2 : Vec Ideal S1280 .f32) : Vec Ideal S1x1280 .f32 := shapeCast S1x1280 a2 shapeCasts_S1280_S1x1280

/-- The input gradient as a function of the arguments. -/
def rDx (a0 : Vec Ideal S2x4x8x1280 .bf16) (a1 : Vec Ideal S1280x2560x3x3 .fp8e4m3) (a2 : Vec Ideal S1280 .f32) : Vec Ideal S2x8x16x2560 .bf16 :=
  shapeCast S2x8x16x2560 (α := EReal) (fun i => KDx a0 (wsOf a2) (wOf a1) i) shapeCasts_S2x4x2x16x2560_S2x8x16x2560
/-- The codes as a function of the arguments. -/
def rCo (a0 : Vec Ideal S2x4x8x1280 .bf16) : Vec Ideal S2x4x8x1280 .fp8e5m2 := fun i => KCo a0 (i 0) (i 1) (i 2) (i 3)
/-- The scales as a function of the arguments. -/
def rSc (a0 : Vec Ideal S2x4x8x1280 .bf16) : Vec Ideal S2 .f32 := fun i => KSc a0 (i 0)

theorem gx_eq (c : Dev nD) : gx m c = fun i : S2x4x2x16x2560.Idx => KDx (m ((c.tc : Thread nD τ).loc main_arg0)) (wsOf (m ((c.tc : Thread nD τ).loc main_arg2))) (wOf (m ((c.tc : Thread nD τ).loc main_arg1))) i := by
  unfold gx wOf wsOf
  rw [V_w, V_ws, V_main_arg0]
  rfl
theorem gco_eq (c : Dev nD) : gco m c = rCo (m ((c.tc : Thread nD τ).loc main_arg0)) := by
  unfold gco rCo
  rw [V_main_arg0]
  rfl
theorem gsc_eq (c : Dev nD) : gsc m c = rSc (m ((c.tc : Thread nD τ).loc main_arg0)) := by
  unfold gsc rSc
  rw [V_main_arg0]
  rfl

/-- A result of the region, as the region leaves it. -/
theorem VE_of_mem (c : Dev nD) (b : Ref sig .tc) (hb : b ∈ R0) : VE m c (Proc.devRef .tc b) = GG m c b := by
  unfold VE
  rw [Pipeline.withArrays_of_ne _ _ _ _ b (fun w => Fin.elim0 w), Pipeline.withR_of_mem _ _ _ _ b hb]
/-- Any other buffer, as the region finds it. -/
theorem VE_of_not_mem (c : Dev nD) (b : Ref sig .tc) (hb : b ∉ R0) : VE m c (Proc.devRef .tc b) = V m c b := by
  unfold VE
  rw [Pipeline.withArrays_of_ne _ _ _ _ b (fun w => Fin.elim0 w), Pipeline.withR_of_not_mem _ _ _ _ b hb]

/-- The last host line writes one buffer only. -/
theorem tail_ne (F : Valuation τ sig (Elt Ideal)) (b : Ref sig .tc) (hb : b ≠ main_v4) :
    StableHlo.after [hostOps1].flatten F (Proc.devRef .tc b) = F (Proc.devRef .tc b) := by
  simp only [hostOps1, List.flatten_cons, List.flatten_nil, List.append_nil, StableHlo.after_cons, StableHlo.after_nil]
  rw [StableHlo.reshape_result_ne' (h := hb)]
/-- The last host line reshapes the input gradient. -/
theorem tail_v4 (F : Valuation τ sig (Elt Ideal)) :
    StableHlo.after [hostOps1].flatten F (Proc.devRef .tc main_v4) = shapeCast S2x8x16x2560 (F (Proc.devRef .tc main_v3_0)) shapeCasts_S2x4x2x16x2560_S2x8x16x2560 := by
  simp only [hostOps1, List.flatten_cons, List.flatten_nil, List.append_nil, StableHlo.after_cons, StableHlo.after_nil]
  rw [StableHlo.reshape_result']
  rfl

/-- The kernel's program ends with its three results at their values and its arguments unchanged. -/
theorem run : θ_run defs (onTc (τ := τ) (main (F := Ideal))) ⟨m, fun _ => 0, ρ⟩ fun r => ∀ c : Dev nD,
      r.2.mem ((c.tc : Thread nD τ).loc main_v4) = rDx (m ((c.tc : Thread nD τ).loc main_arg0)) (m ((c.tc : Thread nD τ).loc main_arg1)) (m ((c.tc : Thread nD τ).loc main_arg2))
      ∧ r.2.mem ((c.tc : Thread nD τ).loc main_v3_1) = rCo (m ((c.tc : Thread nD τ).loc main_arg0))
      ∧ r.2.mem ((c.tc : Thread nD τ).loc main_v3_2) = rSc (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_mainV m ρ)
  have key : ∀ b : Ref sig .tc, b ∈ Pipeline.restRefs sig cfg0.spec → r.2.mem ((c.tc : Thread nD τ).loc b) = StableHlo.after [hostOps1].flatten (VE m c) (Proc.devRef .tc b) := (h c).2
  refine ⟨?_, ?_, ?_, ?_, ?_, ?_⟩
  · rw [key main_v4 (Pipeline.mem_restRefs_of main_v4 (by decide) (by decide)), tail_v4, VE_of_mem m c main_v3_0 (by decide), GG_x, gx_eq]
    rfl
  · rw [key main_v3_1 (Pipeline.mem_restRefs_of main_v3_1 (by decide) (by decide)), tail_ne _ _ (by decide), VE_of_mem m c main_v3_1 (by decide), GG_co, gco_eq]
  · rw [key main_v3_2 (Pipeline.mem_restRefs_of main_v3_2 (by decide) (by decide)), tail_ne _ _ (by decide), VE_of_mem m c main_v3_2 (by decide), GG_sc, gsc_eq]
  · rw [key main_arg0 (Pipeline.mem_restRefs_of main_arg0 (by decide) (by decide)), tail_ne _ _ (by decide), VE_of_not_mem m c main_arg0 (by decide), V_main_arg0]
  · rw [key main_arg1 (Pipeline.mem_restRefs_of main_arg1 (by decide) (by decide)), tail_ne _ _ (by decide), VE_of_not_mem m c main_arg1 (by decide), V_main_arg1]
  · rw [key main_arg2 (Pipeline.mem_restRefs_of main_arg2 (by decide) (by decide)), tail_ne _ _ (by decide), VE_of_not_mem m c main_arg2 (by decide), V_main_arg2]

end Cert.KernelIdeal.HandV

end
-- ==== Proof.RefValue.lean ====
module

public import proofs.«01_k».proof.Proof.Gen.ReferenceIdeal.Value
public import proofs.«01_k».proof.Proof.Spec

@[expose] public section

set_option maxRecDepth 16384

noncomputable section

/-! What the reference's three results hold, element by element. -/

namespace Cert.RefValue

open Cert.ReferenceIdeal Cert.ReferenceIdeal.Gen Idealize.ShloMosaic

/-- Image `b` of the incoming gradient. -/
def img (a0 : Vec Ideal S2x4x8x1280 .bf16) (b : Fin 2) (r : Fin 4) (j : Fin 8) (n : Fin 1280) : EReal := a0 (ix4 b r j n)

/-- A negative infinity's word. -/
theorem ofBits_bot : Ideal.ofBits FTy.f32 4286578688#32 = ⊥ := by simp [Ideal.ofBits, Ideal.ieee]
/-- A positive infinity's word. -/
theorem ofBits_top : Ideal.ofBits FTy.f32 2139095040#32 = ⊤ := by simp [Ideal.ofBits, Ideal.ieee]

/-- The powers that the reference compares with. -/
theorem power (i : Fin 254) : (FloatOps.exp2 (FloatOps.sitofp (F := Ideal) FTy.f32 (IntOp.subi (BitVec.ofNat 32 i.val) 126#32)) : EReal)
    = (((2 : ℝ) ^ ((i.val : ℤ) - 126) : ℝ) : EReal) := by
  have h : (IntOp.subi (BitVec.ofNat 32 i.val) 126#32).toInt = (i.val : ℤ) - 126 := by
    revert i; decide
  show Ideal.exp2 (((IntOp.subi (BitVec.ofNat 32 i.val) 126#32).toInt : ℝ) : EReal) = _
  rw [h]
  show ((Real.rpow 2 (((i.val : ℤ) - 126 : ℤ) : ℝ) : ℝ) : EReal) = _
  congr 1
  exact Real.rpow_intCast 2 _

/-- The scale of image `b`. -/
theorem scale_apply (a0 : Vec Ideal S2x4x8x1280 .bf16) (b : Fin 2) :
    k0_pay3 (F := Ideal) a0 (ix4 b 0 0 0) = Cert.Scale.rscale (Cert.Spec.X (img a0 b)) := by
  have hm : Finset.fold max (Ideal.ofBits FTy.f32 4286578688#32) (fun x => FloatOps.absf (F := Ideal) (φ := .f32) (a0 x)) {i | reduces_S2x4x8x1280_S2.drop i = ix1 b}
      = Cert.Spec.amax (img a0 b) := by
    rw [ofBits_bot]
    refine Cert.Spec.amax_eq _ _ _ ?_ ?_
    · intro i hi
      idx_vars i
      have hd := (Finset.mem_filter.mp hi).2
      have : i0 = b := by
        have h0 := congrArg (fun f => (f 0).val) hd
        rw [reduces_S2x4x8x1280_S2.drop_apply_val_of_eq _ 0 0] at h0
        exact Fin.ext h0
      subst this
      exact ⟨i1, i2, i3, rfl⟩
    · intro r j n
      refine ⟨ix4 b r j n, Finset.mem_filter.mpr ⟨Finset.mem_univ _, ?_⟩, rfl⟩
      funext a
      have ha : a = 0 := Subsingleton.elim (α := Fin 1) a 0
      subst ha
      apply Fin.ext
      rw [reduces_S2x4x8x1280_S2.drop_apply_val_of_eq _ 0 0]
      rfl
  pointwise [k0_pay3, k0_pay2]
  rw [hm, ofBits_top]
  unfold Cert.Scale.rscale Cert.Spec.X
  simp only [power]
  rfl

/-- A code. -/
theorem code_apply (a0 : Vec Ideal S2x4x8x1280 .bf16) (b : Fin 2) (r : Fin 4) (j : Fin 8) (n : Fin 1280) :
    k0_pay4 (F := Ideal) a0 (ix4 b r j n) = Cert.Spec.clip (img a0 b r j n * Ideal.div 1 (Cert.Scale.rscale (Cert.Spec.X (img a0 b)))) := by
  rw [← scale_apply]
  pointwise [k0_pay4, k0_pay2]
  rfl

/-- An element of a spread and padded image: the image's own at the odd rows and columns, zero elsewhere. -/
theorem spread (g : Fin 4 → Fin 8 → EReal) (y x : ℕ) (hy : y < 10) (hx : x < 18) :
    (if h : x < 17 then
      if h : x < 1 then 0
      else
        if h_1 : y < 9 then
          if h : y < 1 then 0
          else
            if h_2 : (x - 1) % 2 < 1 then
              if h_3 : (y - 1) % 2 < 1 then g ⟨(y - 1) / 2, by omega⟩ ⟨(x - 1) / 2, by omega⟩ else 0
            else 0
        else 0
    else 0)
      = if h : (y % 2 = 1 ∧ x % 2 = 1) ∧ (y / 2 < 4 ∧ x / 2 < 8) then g ⟨y / 2, h.2.1⟩ ⟨x / 2, h.2.2⟩ else 0 := by
  split_ifs
  all_goals first
    | rfl
    | (exfalso; omega)
    | (congr 2 <;> omega)

/-- The padded spread times a dequantised tap. -/
theorem product (v : FVec Ideal S2x4x8x1280 .bf16) (a1 : Vec Ideal S1280x2560x3x3 .fp8e4m3) (a2 : Vec Ideal S1280 .f32)
    (b : Fin 2) (o : Fin 2560) (p q : Fin 3) (y x : ℕ) (hy : y < 10) (hx : x < 18) :
    (∑ n, k0_pay8 (F := Ideal) v (ix4 b ⟨y, hy⟩ ⟨x, hx⟩ n) * k0_pay7 a1 a2 (ix4 n o p q) : EReal)
      = if y % 2 = 1 ∧ x % 2 = 1 then
          Cert.Spec.T (Cert.Spec.A (fun r j n => v (ix4 b r j n)) (fun n => a2 (ix1 n))) (fun n => a1 (ix4 n o p q)) (y / 2) (x / 2)
        else 0 := by
  have hw : ∀ n, k0_pay7 (F := Ideal) a1 a2 (ix4 n o p q) = a1 (ix4 n o p q) * a2 (ix1 n) := by
    intro n; pointwise [k0_pay7]
  have hp : ∀ n, k0_pay8 (F := Ideal) v (ix4 b ⟨y, hy⟩ ⟨x, hx⟩ n)
      = if h : (y % 2 = 1 ∧ x % 2 = 1) ∧ (y / 2 < 4 ∧ x / 2 < 8) then v (ix4 b ⟨y / 2, h.2.1⟩ ⟨x / 2, h.2.2⟩ n) else 0 := by
    intro n
    have hz : (((0#32).toInt : ℝ) : EReal) = 0 := by simp
    pointwise [k0_pay8]
    simp only [hz]
    exact spread (fun r j => v (ix4 b r j n)) y x hy hx
  unfold Cert.Spec.T Cert.Spec.A
  split
  · rename_i h
    refine Finset.sum_congr rfl fun n _ => ?_
    rw [hw, hp]
    split_ifs with h1 h2 h3
    · rw [mul_assoc, mul_comm (a2 (ix1 n))]
    · exact absurd h1.2 h2
    · exact absurd ⟨h, h3⟩ h1
    · rw [zero_mul, zero_mul]
  · rename_i h
    refine Finset.sum_eq_zero fun n _ => ?_
    rw [hp, dif_neg (fun h' => h h'.1), zero_mul]

/-- Nine sums added up. -/
theorem add9 {a b c d e f g h i a' b' c' d' e' f' g' h' i' : EReal} (ha : a = a') (hb : b = b') (hc : c = c') (hd : d = d')
    (he : e = e') (hf : f = f') (hg : g = g') (hh : h = h') (hi : i = i') :
    a + b + c + d + e + f + g + h + i = a' + b' + c' + d' + e' + f' + g' + h' + i' := by
  subst ha hb hc hd he hf hg hh hi; rfl

/-- An element of the input gradient. -/
theorem dx_apply (a0 : Vec Ideal S2x4x8x1280 .bf16) (a1 : Vec Ideal S1280x2560x3x3 .fp8e4m3) (a2 : Vec Ideal S1280 .f32)
    (b : Fin 2) (r : Fin 4) (s : Fin 2) (j : Fin 8) (t : Fin 2) (o : Fin 2560) (y : Fin 8) (x : Fin 16) (hy : y.val = 2 * r.val + s.val) (hx : x.val = 2 * j.val + t.val) :
    Value.G3 (F := Ideal) a0 a1 a2 (ix4 b y x o)
      = Cert.Spec.acc (Cert.Spec.A (fun r j n => Value.G4 (F := Ideal) a0 a1 a2 (ix4 b r j n)) (fun n => a2 (ix1 n))) (fun p q n => a1 (ix4 n o p q)) s.val t.val r.val j.val
        * k0_pay3 (F := Ideal) a0 (ix4 b 0 0 0) := by
  have hv : ∀ r j n, Value.G4 (F := Ideal) a0 a1 a2 (ix4 b r j n) = k0_pay12 (F := Ideal) a0 a1 a2 (ix4 b r j n) := fun _ _ _ => by
    unfold Value.G4 k0_pay12
    rw [View.ld_unit_zero (by decide)]
    rfl
  simp only [hv]
  have hG : Value.G3 (F := Ideal) a0 a1 a2 = k0_pay1 (k0_pay3 a0) (k0_pay7 a1 a2) (k0_pay8 (k0_pay12 a0 a1 a2)) (k0_pay9 (k0_pay12 a0 a1 a2) a1 a2) (k0_pay10 (k0_pay12 a0 a1 a2)) (k0_pay11 a1 a2) := rfl
  rw [hG]
  generalize k0_pay12 (F := Ideal) a0 a1 a2 = v
  pointwise [k0_pay1, k0_pay9, k0_pay10, k0_pay11]
  congr 1
  refine (add9 (product v a1 a2 b o 2 2 y x (by omega) (by omega)) (product v a1 a2 b o 2 1 y (1 + x) (by omega) (by omega))
    (product v a1 a2 b o 2 0 y (2 + x) (by omega) (by omega)) (product v a1 a2 b o 1 2 (1 + y) x (by omega) (by omega))
    (product v a1 a2 b o 1 1 (1 + y) (1 + x) (by omega) (by omega)) (product v a1 a2 b o 1 0 (1 + y) (2 + x) (by omega) (by omega))
    (product v a1 a2 b o 0 2 (2 + y) x (by omega) (by omega)) (product v a1 a2 b o 0 1 (2 + y) (1 + x) (by omega) (by omega))
    (product v a1 a2 b o 0 0 (2 + y) (2 + x) (by omega) (by omega))).trans ?_
  rw [hy, hx]
  have hs := s.isLt
  have ht := t.isLt
  exact Cert.Spec.acc_of_nine _ (fun p q n => a1 (ix4 n o p q)) s.val t.val r.val j.val hs ht

end Cert.RefValue
-- ==== Proof.Compare.lean ====
/-
  The kernel's three results and the reference's are the same functions of the arguments, where every value of the
  incoming gradient is in bf16's finite range.
-/
module

public import proofs.«01_k».proof.Proof.KernelIdealResults
public import proofs.«01_k».proof.Proof.RefValue
public import proofs.«01_k».proof.Proof.Gen.Pre_in_bf16_range
public import Idealize.ShloMosaic.Lib.ReduceAll

@[expose] public section

set_option maxRecDepth 16384

noncomputable section

namespace Cert.Compare

open Idealize.ShloMosaic Cert.KernelIdeal.HandV Cert.KernelResults Cert.RefValue

/-- An incoming gradient. -/
abbrev Dy := Vec Ideal Cert.KernelIdeal.S2x4x8x1280 .bf16

/-- Every value of the incoming gradient is in range. -/
def InRange (a0 : Dy) : Prop := ∀ i, max (a0 i : EReal) (-(a0 i : EReal)) ≤ (((2 : ℝ) ^ (128 : ℤ) : ℝ) : EReal)

/-- The greatest finite bf16 is at most `2 ^ 128`. -/
theorem greatest : Ideal.ofBits FTy.bf16 0x7F7F#16 ≤ (((2 : ℝ) ^ (128 : ℤ) : ℝ) : EReal) := by
  have e : Ideal.ofBits FTy.bf16 0x7F7F#16 = (((255 : ℝ) * 2 ^ (120 : ℤ) : ℝ) : EReal) := by
    simp [Ideal.ofBits, Ideal.ieee]
  rw [e, EReal.coe_le_coe_iff]
  norm_num

/-- The stated precondition says that every value is in range. -/
theorem inRange (a0 : Dy) (a1 : Vec Ideal Cert.KernelIdeal.S1280x2560x3x3 .fp8e4m3) (a2 : Vec Ideal Cert.KernelIdeal.S1280 .f32)
    [Cert.Pre_in_bf16_range.Facts]
    (h : Cert.Pre_in_bf16_range.fn (F := Ideal) a0 a1 a2 = fun _ => 1#1) : InRange a0 := by
  intro i
  have h1 := congrFun h (fun a => a.elim0)
  unfold Cert.Pre_in_bf16_range.fn at h1
  haveI : Subsingleton Cert.Pre_in_bf16_range.S_.Idx := ⟨fun a b => funext fun k => k.elim0⟩
  have h2 := Host.reduce_andi_all _ _ _ _ _ h1 i
  have h3 : max (a0 i : EReal) (-(a0 i : EReal)) ≤ Ideal.ofBits FTy.bf16 0x7F7F#16 := by
    by_contra hc
    have : cmpf (F := Ideal) (φ := .bf16) .ole (Host.absf a0) (broadcastInDim Cert.Pre_in_bf16_range.S2x4x8x1280 ![] Cert.Pre_in_bf16_range.Facts.bcast_S_S2x4x8x1280 (constant Cert.Pre_in_bf16_range.S_ .bf16 0x7F7F#16)) i
        = BitVec.ofBool (decide (max (a0 i : EReal) (-(a0 i : EReal)) ≤ Ideal.ofBits FTy.bf16 0x7F7F#16)) := rfl
    rw [this, decide_eq_false hc] at h2
    exact absurd h2 (by decide)
  exact h3.trans greatest

/-- An image's scale and its reciprocal are the same in both. -/
theorem scale (a0 : Dy) (h : InRange a0) (b : Fin 2) :
    KSc a0 b = Cert.Scale.rscale (Cert.Spec.X (img a0 b)) ∧ Cert.Scale.kinv (KX a0 b) = Ideal.div 1 (Cert.Scale.rscale (Cert.Spec.X (img a0 b))) :=
  Cert.Scale.scale_eq _ (Cert.Spec.X_nonneg _) (Cert.Spec.X_lt _ fun r j n => h (ix4 b r j n))

/-- The codes are the same in both. -/
theorem codes (a0 : Dy) (h : InRange a0) (b : Fin 2) (r : Fin 4) (j : Fin 8) (n : Fin 1280) :
    KCo a0 b r j n = Cert.ReferenceIdeal.Gen.k0_pay4 (F := Ideal) a0 (ix4 b r j n) := by
  rw [code_apply]
  unfold KCo
  rw [(scale a0 h b).2]
  rfl

/-- The codes, as results. -/
theorem eq_codes (a0 : Dy) (a1 : Vec Ideal Cert.KernelIdeal.S1280x2560x3x3 .fp8e4m3) (a2 : Vec Ideal Cert.KernelIdeal.S1280 .f32) (h : InRange a0) :
    rCo a0 = Cert.ReferenceIdeal.Value.G4 (F := Ideal) a0 a1 a2 := by
  funext (i : Cert.KernelIdeal.S2x4x8x1280.Idx)
  idx_vars i
  exact codes a0 h i0 i1 i2 i3

/-- The scales, as results. -/
theorem eq_scales (a0 : Dy) (a1 : Vec Ideal Cert.KernelIdeal.S1280x2560x3x3 .fp8e4m3) (a2 : Vec Ideal Cert.KernelIdeal.S1280 .f32) (h : InRange a0) :
    rSc a0 = Cert.ReferenceIdeal.Value.G5 (F := Ideal) a0 a1 a2 := by
  funext (i : Cert.KernelIdeal.S2.Idx)
  idx_vars i
  refine ((scale a0 h i0).1.trans (scale_apply a0 i0).symm).trans ?_
  symm
  show shapeCast Cert.ReferenceIdeal.S2 (Cert.ReferenceIdeal.Gen.k0_pay3 (F := Ideal) a0) Cert.ReferenceIdeal.Gen.shapeCasts_S2x1x1x1_S2 (ix1 i0) = _
  simp only [pointwise]

/-- The input gradient, as a result. -/
theorem eq_dx (a0 : Dy) (a1 : Vec Ideal Cert.KernelIdeal.S1280x2560x3x3 .fp8e4m3) (a2 : Vec Ideal Cert.KernelIdeal.S1280 .f32) (h : InRange a0) :
    rDx a0 a1 a2 = Cert.ReferenceIdeal.Value.G3 (F := Ideal) a0 a1 a2 := by
  funext (i : Cert.KernelIdeal.S2x8x16x2560.Idx)
  idx_vars i
  have h1 := i1.isLt
  have h2 := i2.isLt
  rw [dx_apply a0 a1 a2 i0 ⟨i1.val / 2, by omega⟩ ⟨i1.val % 2, by omega⟩ ⟨i2.val / 2, by omega⟩ ⟨i2.val % 2, by omega⟩ i3 i1 i2
    (by show i1.val = 2 * (i1.val / 2) + i1.val % 2; omega) (by show i2.val = 2 * (i2.val / 2) + i2.val % 2; omega)]
  refine (dx_shape _ i0 ⟨i1.val / 2, by omega⟩ ⟨i1.val % 2, by omega⟩ i2 i3 i1 (by show i1.val = 2 * (i1.val / 2) + i1.val % 2; omega)).trans ?_
  show Cert.KernelDots.D (KA a0 (wsOf a2)) (wOf a1) (KSc a0) i0 (i1.val / 2) (i1.val % 2) i2.val i3 = _
  unfold Cert.KernelDots.D
  have hA : KA a0 (wsOf a2) i0 = Cert.Spec.A (fun r j n => Cert.ReferenceIdeal.Value.G4 (F := Ideal) a0 a1 a2 (ix4 i0 r j n)) (fun n => a2 (ix1 n)) := by
    have h1 : KCo a0 i0 = fun r j n => Cert.ReferenceIdeal.Value.G4 (F := Ideal) a0 a1 a2 (ix4 i0 r j n) := by
      funext r j n
      exact codes a0 h i0 r j n
    have h2 : (fun n : Fin 1280 => wsOf a2 (ix2 0 n)) = fun n => a2 (ix1 n) := by
      funext n
      exact ws_apply a2 n
    show Cert.Spec.A (KCo a0 i0) (fun n : Fin 1280 => wsOf a2 (ix2 0 n)) = _
    rw [h1, h2]
  have hw : (fun (p q : Fin 3) (n : Fin 1280) => wOf a1 (ix3 ⟨3 * p.val + q.val, by omega⟩ n i3)) = fun p q n => a1 (ix4 n i3 p q) := by
    funext p q n
    exact w_apply a1 p q n i3 _
  rw [hA, hw, (scale a0 h i0).1, scale_apply]

end Cert.Compare

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_in_bf16_range
public import proofs.«01_k».proof.Proof.KernelFrame
public import proofs.«01_k».proof.Proof.KernelIdealFrame
public import proofs.«01_k».proof.Proof.Compare
public import Idealize.ShloMosaic.Lib.Bf16Pair

@[expose] public section

noncomputable section

namespace Cert.Proof

open Idealize.ShloMosaic Idealize.SL.Sem

/-- Over the reals, and for an incoming gradient in bf16's finite range, the kernel's program and the reference end with
    the same input gradient, the same codes and the same scales. -/
theorem value : letI := Cert.KernelIdeal.Gen.facts; letI := Cert.ReferenceIdeal.Gen.facts; letI := Cert.Pre_in_bf16_range.Gen.facts
    Cert.algebraic_KernelIdeal_ReferenceIdeal_pre_in_bf16_range := by
  intro m g m' g' hpre hargs
  refine ⟨fun c => Cert.KernelIdeal.HandV.rDx (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.KernelIdeal.HandV.rCo (m ((c.tc : Thread Cert.KernelIdeal.nD Cert.KernelIdeal.τ).loc Cert.KernelIdeal.main_arg0)),
    fun c => Cert.KernelIdeal.HandV.rSc (m ((c.tc : Thread Cert.KernelIdeal.nD Cert.KernelIdeal.τ).loc Cert.KernelIdeal.main_arg0)),
    Cert.KernelIdeal.HandV.run m g, ?_⟩
  refine (θ_run _ _ _).mono (fun r h c => ?_) (Cert.ReferenceIdeal.Value.run m' g')
  obtain ⟨h0, h1, h2, k0, k1, k2⟩ := h c
  obtain ⟨e0, e1, e2⟩ := hargs c
  have hr := Cert.Compare.inRange _ _ _ (hpre c)
  refine ⟨h0.trans ?_, h1.trans ?_, h2.trans ?_, k0, k1, k2⟩
  · exact (congr (congr (congrArg Cert.ReferenceIdeal.Value.G3 e0) e1) e2).trans (Cert.Compare.eq_dx _ _ _ hr).symm
  · exact (congr (congr (congrArg Cert.ReferenceIdeal.Value.G4 e0) e1) e2).trans (Cert.Compare.eq_codes _ _ _ hr).symm
  · exact (congr (congr (congrArg Cert.ReferenceIdeal.Value.G5 e0) e1) e2).trans (Cert.Compare.eq_scales _ _ _ hr).symm

theorem claim : Cert.Claim := ⟨Cert.Kernel.Gen.facts, Cert.KernelIdeal.Gen.facts, Cert.ReferenceIdeal.Gen.facts, Cert.Pre_in_bf16_range.Gen.facts,
  fun m g _ => Cert.Kernel.Hand.frame_run m g,
  fun m g _ => Cert.KernelIdeal.Hand.frame_run m g,
  fun m g _ => Cert.KernelIdeal.Hand.frame_run m g,
  fun m g _ => Cert.ReferenceIdeal.Gen.frame m g,
  fun m g _ => Cert.ReferenceIdeal.Gen.frame m g,
  ⟨IdealRules.bf16_pair.packStatement _, IdealRules.bf16_pair.statement _ _⟩,
  value⟩

end Cert.Proof

end
